-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v18_0) = v1 c
          ∧ r.2.mem ((c.tc : Thread Cert.ReferenceIdeal.nD Cert.ReferenceIdeal.τ).loc Cert.ReferenceIdeal.main_v18_1) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x32x256 : Shape := ⟨4, ![32, 1, 32, 256]⟩
abbrev S32x1x2x256 : Shape := ⟨4, ![32, 1, 2, 256]⟩
abbrev S32x2048x2x256 : Shape := ⟨4, ![32, 2048, 2, 256]⟩
abbrev S32x2x256 : Shape := ⟨3, ![32, 2, 256]⟩
abbrev S32x2048x2 : Shape := ⟨3, ![32, 2048, 2]⟩
abbrev S32 : Shape := ⟨1, ![32]⟩
abbrev S32x32x256 : Shape := ⟨3, ![32, 32, 256]⟩
abbrev S32x2x2048x256 : Shape := ⟨4, ![32, 2, 2048, 256]⟩
abbrev S32x2x2048 : Shape := ⟨3, ![32, 2, 2048]⟩
abbrev S2x32x256 : Shape := ⟨3, ![2, 32, 256]⟩
abbrev S32x2 : Shape := ⟨2, ![32, 2]⟩
abbrev S1x32x256 : Shape := ⟨3, ![1, 32, 256]⟩
abbrev S1x2x256 : Shape := ⟨3, ![1, 2, 256]⟩
abbrev S1x2x2048x256 : Shape := ⟨4, ![1, 2, 2048, 256]⟩
abbrev S1x2x2048 : Shape := ⟨3, ![1, 2, 2048]⟩
abbrev S1 : Shape := ⟨1, ![1]⟩
abbrev S32x1x256 : Shape := ⟨3, ![32, 1, 256]⟩
abbrev S32x256 : Shape := ⟨2, ![32, 256]⟩
abbrev S32x1 : Shape := ⟨2, ![32, 1]⟩
abbrev S1x16x256 : Shape := ⟨3, ![1, 16, 256]⟩
abbrev S16x256 : Shape := ⟨2, ![16, 256]⟩
abbrev S1x1x2048x256 : Shape := ⟨4, ![1, 1, 2048, 256]⟩
abbrev S2048x256 : Shape := ⟨2, ![2048, 256]⟩
abbrev S1x1x256 : Shape := ⟨3, ![1, 1, 256]⟩
abbrev S1x256 : Shape := ⟨2, ![1, 256]⟩
abbrev S16x2048 : Shape := ⟨2, ![16, 2048]⟩
abbrev S16 : Shape := ⟨1, ![16]⟩
abbrev S16x1 : Shape := ⟨2, ![16, 1]⟩
abbrev S1x1x2048 : Shape := ⟨3, ![1, 1, 2048]⟩
abbrev S1x2048 : Shape := ⟨2, ![1, 2048]⟩
abbrev S32x1x2 : Shape := ⟨3, ![32, 1, 2]⟩

abbrev nBuf : Space → Nat
  | .hbm => 23
  | .vmem => 22
  | .smem => 1
  | _ => 0

abbrev bufTy : (tb : Table) → Fin (tcTables nBuf tb) → BufTy
  | .hbm, ⟨0, _⟩ => ⟨S32x1x32x256, .bf16⟩
  | .hbm, ⟨1, _⟩ => ⟨S32x1x2x256, .bf16⟩
  | .hbm, ⟨2, _⟩ => ⟨S32x1x2x256, .bf16⟩
  | .hbm, ⟨3, _⟩ => ⟨S32x2048x2x256, .i8⟩
  | .hbm, ⟨4, _⟩ => ⟨S32x2x256, .f32⟩
  | .hbm, ⟨5, _⟩ => ⟨S32x2048x2x256, .i8⟩
  | .hbm, ⟨6, _⟩ => ⟨S32x2048x2, .f32⟩
  | .hbm, ⟨7, _⟩ => ⟨S32x32x256, .bf16⟩
  | .hbm, ⟨8, _⟩ => ⟨S32x2x256, .bf16⟩
  | .hbm, ⟨9, _⟩ => ⟨S32x2x256, .bf16⟩
  | .hbm, ⟨10, _⟩ => ⟨S32x2x2048x256, .i8⟩
  | .hbm, ⟨11, _⟩ => ⟨S32x2x2048x256, .i8⟩
  | .hbm, ⟨12, _⟩ => ⟨S32x2x2048, .f32⟩
  | .hbm, ⟨13, _⟩ => ⟨S32x32x256, .bf16⟩
  | .hbm, ⟨14, _⟩ => ⟨S2x32x256, .i8⟩
  | .hbm, ⟨15, _⟩ => ⟨S2x32x256, .i8⟩
  | .hbm, ⟨16, _⟩ => ⟨S32x2, .f32⟩
  | .hbm, ⟨17, _⟩ => ⟨S32x1x32x256, .bf16⟩
  | .hbm, ⟨18, _⟩ => ⟨S32x2x256, .i8⟩
  | .hbm, ⟨19, _⟩ => ⟨S32x1x2x256, .i8⟩
  | .hbm, ⟨20, _⟩ => ⟨S32x2x256, .i8⟩
  | .hbm, ⟨21, _⟩ => ⟨S32x1x2x256, .i8⟩
  | .hbm, ⟨22, _⟩ => ⟨S32x1x2, .f32⟩
  | .local _ .vmem, ⟨0, _⟩ => ⟨S1x32x256, .bf16⟩
  | .local _ .vmem, ⟨1, _⟩ => ⟨S1x32x256, .bf16⟩
  | .local _ .vmem, ⟨2, _⟩ => ⟨S1x2x256, .bf16⟩
  | .local _ .vmem, ⟨3, _⟩ => ⟨S1x2x256, .bf16⟩
  | .local _ .vmem, ⟨4, _⟩ => ⟨S1x2x256, .bf16⟩
  | .local _ .vmem, ⟨5, _⟩ => ⟨S1x2x256, .bf16⟩
  | .local _ .vmem, ⟨6, _⟩ => ⟨S1x2x256, .f32⟩
  | .local _ .vmem, ⟨7, _⟩ => ⟨S1x2x256, .f32⟩
  | .local _ .vmem, ⟨8, _⟩ => ⟨S32x2x256, .bf16⟩
  | .local _ .vmem, ⟨9, _⟩ => ⟨S32x2x256, .bf16⟩
  | .local _ .vmem, ⟨10, _⟩ => ⟨S32x2x256, .f32⟩
  | .local _ .vmem, ⟨11, _⟩ => ⟨S1x2x2048x256, .i8⟩
  | .local _ .vmem, ⟨12, _⟩ => ⟨S1x2x2048x256, .i8⟩
  | .local _ .vmem, ⟨13, _⟩ => ⟨S1x2x2048x256, .i8⟩
  | .local _ .vmem, ⟨14, _⟩ => ⟨S1x2x2048x256, .i8⟩
  | .local _ .vmem, ⟨15, _⟩ => ⟨S1x2x2048, .f32⟩
  | .local _ .vmem, ⟨16, _⟩ => ⟨S1x2x2048, .f32⟩
  | .local _ .vmem, ⟨17, _⟩ => ⟨S1x32x256, .bf16⟩
  | .local _ .vmem, ⟨18, _⟩ => ⟨S1x32x256, .bf16⟩
  | .local _ .vmem, ⟨19, _⟩ => ⟨S2x32x256, .i8⟩
  | .local _ .vmem, ⟨20, _⟩ => ⟨S2x32x256, .i8⟩
  | .local _ .vmem, ⟨21, _⟩ => ⟨S32x2, .f32⟩
  | .local _ .smem, ⟨0, _⟩ => ⟨S32, .i32⟩
  | _, _ => ⟨S32x1x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x2x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x2x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2x2048x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x2048x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x32x256 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x32x256 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S32x1x32x256 : Shape := ⟨4, ![32, 1, 32, 256]⟩
abbrev S32x1x2x256 : Shape := ⟨4, ![32, 1, 2, 256]⟩
abbrev S32x2048x2x256 : Shape := ⟨4, ![32, 2048, 2, 256]⟩
abbrev S32x2x256 : Shape := ⟨3, ![32, 2, 256]⟩
abbrev S32x2048x2 : Shape := ⟨3, ![32, 2048, 2]⟩
abbrev S32 : Shape := ⟨1, ![32]⟩
abbrev S_ : Shape := ⟨0, ![]⟩
abbrev S32x1x2 : Shape := ⟨3, ![32, 1, 2]⟩
abbrev S32x1x2x1 : Shape := ⟨4, ![32, 1, 2, 1]⟩
abbrev S32x1x2x16x256 : Shape := ⟨5, ![32, 1, 2, 16, 256]⟩
abbrev S32x2x2048x1x16 : Shape := ⟨5, ![32, 2, 2048, 1, 16]⟩
abbrev S32x2x16x1x2048 : Shape := ⟨5, ![32, 2, 16, 1, 2048]⟩
abbrev S32x2x1x1x16 : Shape := ⟨5, ![32, 2, 1, 1, 16]⟩
abbrev S32x2x16x1x1 : Shape := ⟨5, ![32, 2, 16, 1, 1]⟩
abbrev S2048 : Shape := ⟨1, ![2048]⟩
abbrev S1x2048 : Shape := ⟨2, ![1, 2048]⟩
abbrev S32x1 : Shape := ⟨2, ![32, 1]⟩
abbrev S32x2048 : Shape := ⟨2, ![32, 2048]⟩
abbrev S1 : Shape := ⟨1, ![1]⟩
abbrev S1x1 : Shape := ⟨2, ![1, 1]⟩
abbrev S32x1x1x1x2048 : Shape := ⟨5, ![32, 1, 1, 1, 2048]⟩
abbrev S32x2x16x1 : Shape := ⟨4, ![32, 2, 16, 1]⟩
abbrev S32x2x2048 : Shape := ⟨3, ![32, 2, 2048]⟩
abbrev S32x2x1x1x2048 : Shape := ⟨5, ![32, 2, 1, 1, 2048]⟩
abbrev S32x2x256x16x1 : Shape := ⟨5, ![32, 2, 256, 16, 1]⟩

abbrev nBuf : Space → Nat
  | .hbm => 122
  | .vmem => 8
  | .smem => 0
  | _ => 0

abbrev bufTy : (tb : Table) → Fin (tcTables nBuf tb) → BufTy
  | .hbm, ⟨0, _⟩ => ⟨S32x1x32x256, .bf16⟩
  | .hbm, ⟨1, _⟩ => ⟨S32x1x2x256, .bf16⟩
  | .hbm, ⟨2, _⟩ => ⟨S32x1x2x256, .bf16⟩
  | .hbm, ⟨3, _⟩ => ⟨S32x2048x2x256, .i8⟩
  | .hbm, ⟨4, _⟩ => ⟨S32x2x256, .f32⟩
  | .hbm, ⟨5, _⟩ => ⟨S32x2048x2x256, .i8⟩
  | .hbm, ⟨6, _⟩ => ⟨S32x2048x2, .f32⟩
  | .hbm, ⟨7, _⟩ => ⟨S32, .i32⟩
  | .hbm, ⟨8, _⟩ => ⟨S32x1x2x256, .f32⟩
  | .hbm, ⟨9, _⟩ => ⟨S32x1x2x256, .f32⟩
  | .hbm, ⟨10, _⟩ => ⟨S32x1x2x256, .f32⟩
  | .hbm, ⟨11, _⟩ => ⟨S32x1x2x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32x1x2x256, .f32⟩
  | .hbm, ⟨16, _⟩ => ⟨S32x1x2x256, .f32⟩
  | .hbm, ⟨17, _⟩ => ⟨S_, .f32⟩
  | .hbm, ⟨18, _⟩ => ⟨S32x1x2x256, .f32⟩
  | .hbm, ⟨19, _⟩ => ⟨S32x1x2x256, .f32⟩
  | .hbm, ⟨20, _⟩ => ⟨S32x1x2x256, .f32⟩
  | .hbm, ⟨21, _⟩ => ⟨S32x1x2x256, .f32⟩
  | .hbm, ⟨22, _⟩ => ⟨S_, .f32⟩
  | .hbm, ⟨23, _⟩ => ⟨S32x1x2, .f32⟩
  | .hbm, ⟨24, _⟩ => ⟨S_, .f32⟩
  | .hbm, ⟨25, _⟩ => ⟨S32x1x2, .f32⟩
  | .hbm, ⟨26, _⟩ => ⟨S32x1x2, .i1⟩
  | .hbm, ⟨27, _⟩ => ⟨S_, .f32⟩
  | .hbm, ⟨28, _⟩ => ⟨S32x1x2, .f32⟩
  | .hbm, ⟨29, _⟩ => ⟨S32x1x2, .f32⟩
  | .hbm, ⟨30, _⟩ => ⟨S_, .f32⟩
  | .hbm, ⟨31, _⟩ => ⟨S_, .f32⟩
  | .hbm, ⟨32, _⟩ => ⟨S32x1x2, .f32⟩
  | .hbm, ⟨33, _⟩ => ⟨S32x1x2, .f32⟩
  | .hbm, ⟨34, _⟩ => ⟨S32x1x2x1, .f32⟩
  | .hbm, ⟨35, _⟩ => ⟨S32x1x2x256, .f32⟩
  | .hbm, ⟨36, _⟩ => ⟨S32x1x2x256, .f32⟩
  | .hbm, ⟨37, _⟩ => ⟨S32x1x2x256, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S32x1x2x256, .f32⟩
  | .hbm, ⟨42, _⟩ => ⟨S32x1x2x256, .f32⟩
  | .hbm, ⟨43, _⟩ => ⟨S_, .f32⟩
  | .hbm, ⟨44, _⟩ => ⟨S32x1x2x256, .f32⟩
  | .hbm, ⟨45, _⟩ => ⟨S32x1x2x256, .f32⟩
  | .hbm, ⟨46, _⟩ => ⟨S32x1x2x256, .i8⟩
  | .hbm, ⟨47, _⟩ => ⟨S32x1x2x256, .i8⟩
  | .hbm, ⟨48, _⟩ => ⟨S32x2048x2x256, .bf16⟩
  | .hbm, ⟨49, _⟩ => ⟨S32x2048x2x256, .bf16⟩
  | .hbm, ⟨50, _⟩ => ⟨S32x1x2x16x256, .bf16⟩
  | .hbm, ⟨51, _⟩ => ⟨S32x2x256, .bf16⟩
  | .hbm, ⟨52, _⟩ => ⟨S32x1x2x256, .bf16⟩
  | .hbm, ⟨53, _⟩ => ⟨S32x2048x2x256, .bf16⟩
  | .hbm, ⟨54, _⟩ => ⟨S32x2048x2x256, .bf16⟩
  | .hbm, ⟨55, _⟩ => ⟨S32x2x2048x1x16, .f32⟩
  | .hbm, ⟨56, _⟩ => ⟨S32x2x16x1x2048, .f32⟩
  | .hbm, ⟨57, _⟩ => ⟨S_, .f32⟩
  | .hbm, ⟨58, _⟩ => ⟨S32x2x16x1x2048, .f32⟩
  | .hbm, ⟨59, _⟩ => ⟨S32x2x16x1x2048, .f32⟩
  | .hbm, ⟨60, _⟩ => ⟨S32x2x1x1x16, .f32⟩
  | .hbm, ⟨61, _⟩ => ⟨S32x2x16x1x1, .f32⟩
  | .hbm, ⟨62, _⟩ => ⟨S_, .f32⟩
  | .hbm, ⟨63, _⟩ => ⟨S32x2x16x1x1, .f32⟩
  | .hbm, ⟨64, _⟩ => ⟨S32x2x16x1x1, .f32⟩
  | .hbm, ⟨65, _⟩ => ⟨S2048, .i32⟩
  | .hbm, ⟨66, _⟩ => ⟨S1x2048, .i32⟩
  | .hbm, ⟨67, _⟩ => ⟨S32x1, .i32⟩
  | .hbm, ⟨68, _⟩ => ⟨S32x2048, .i32⟩
  | .hbm, ⟨69, _⟩ => ⟨S32x2048, .i32⟩
  | .hbm, ⟨70, _⟩ => ⟨S32x2048, .i1⟩
  | .hbm, ⟨71, _⟩ => ⟨S1, .i32⟩
  | .hbm, ⟨72, _⟩ => ⟨S1x1, .i32⟩
  | .hbm, ⟨73, _⟩ => ⟨S1, .i32⟩
  | .hbm, ⟨74, _⟩ => ⟨S1x1, .i32⟩
  | .hbm, ⟨75, _⟩ => ⟨S1x1, .i1⟩
  | .hbm, ⟨76, _⟩ => ⟨S32x1x1x1x2048, .i1⟩
  | .hbm, ⟨77, _⟩ => ⟨S_, .f32⟩
  | .hbm, ⟨78, _⟩ => ⟨S_, .f32⟩
  | .hbm, ⟨79, _⟩ => ⟨S32x2x16x1x2048, .i1⟩
  | .hbm, ⟨80, _⟩ => ⟨S32x2x16x1x2048, .f32⟩
  | .hbm, ⟨81, _⟩ => ⟨S32x2x16x1x2048, .f32⟩
  | .hbm, ⟨82, _⟩ => ⟨S_, .f32⟩
  | .hbm, ⟨83, _⟩ => ⟨S_, .f32⟩
  | .hbm, ⟨84, _⟩ => ⟨S32x2x16x1x1, .i1⟩
  | .hbm, ⟨85, _⟩ => ⟨S32x2x16x1x1, .f32⟩
  | .hbm, ⟨86, _⟩ => ⟨S32x2x16x1x1, .f32⟩
  | .hbm, ⟨87, _⟩ => ⟨S_, .f32⟩
  | .hbm, ⟨88, _⟩ => ⟨S32x2x16x1, .f32⟩
  | .hbm, ⟨89, _⟩ => ⟨S32x2x16x1x1, .f32⟩
  | .hbm, ⟨90, _⟩ => ⟨S_, .f32⟩
  | .hbm, ⟨91, _⟩ => ⟨S32x2x16x1, .f32⟩
  | .hbm, ⟨92, _⟩ => ⟨S32x2x16x1x1, .f32⟩
  | .hbm, ⟨93, _⟩ => ⟨S32x2x16x1x1, .f32⟩
  | .hbm, ⟨94, _⟩ => ⟨S32x2x16x1x2048, .f32⟩
  | .hbm, ⟨95, _⟩ => ⟨S32x2x16x1x2048, .f32⟩
  | .hbm, ⟨96, _⟩ => ⟨S32x2x16x1x2048, .f32⟩
  | .hbm, ⟨97, _⟩ => ⟨S32x2x16x1x1, .f32⟩
  | .hbm, ⟨98, _⟩ => ⟨S32x2x16x1x1, .f32⟩
  | .hbm, ⟨99, _⟩ => ⟨S_, .f32⟩
  | .hbm, ⟨100, _⟩ => ⟨S32x2x16x1, .f32⟩
  | .hbm, ⟨101, _⟩ => ⟨S32x2x16x1x1, .f32⟩
  | .hbm, ⟨102, _⟩ => ⟨S_, .f32⟩
  | .hbm, ⟨103, _⟩ => ⟨S32x2x16x1, .f32⟩
  | .hbm, ⟨104, _⟩ => ⟨S32x2x16x1x1, .f32⟩
  | .hbm, ⟨105, _⟩ => ⟨S32x2x16x1x1, .f32⟩
  | .hbm, ⟨106, _⟩ => ⟨S32x2x16x1x2048, .f32⟩
  | .hbm, ⟨107, _⟩ => ⟨S32x2x16x1x2048, .f32⟩
  | .hbm, ⟨108, _⟩ => ⟨S32x2x16x1x1, .f32⟩
  | .hbm, ⟨109, _⟩ => ⟨S32x2x2048, .f32⟩
  | .hbm, ⟨110, _⟩ => ⟨S32x2x1x1x2048, .f32⟩
  | .hbm, ⟨111, _⟩ => ⟨S32x2x16x1x2048, .f32⟩
  | .hbm, ⟨112, _⟩ => ⟨S32x2x16x1x2048, .f32⟩
  | .hbm, ⟨113, _⟩ => ⟨S32x2x16x1x2048, .bf16⟩
  | .hbm, ⟨114, _⟩ => ⟨S32x2x256x16x1, .f32⟩
  | .hbm, ⟨115, _⟩ => ⟨S32x1x2x16x256, .f32⟩
  | .hbm, ⟨116, _⟩ => ⟨S32x2x16x1x1, .bf16⟩
  | .hbm, ⟨117, _⟩ => ⟨S32x2x256x16x1, .f32⟩
  | .hbm, ⟨118, _⟩ => ⟨S32x1x2x16x256, .f32⟩
  | .hbm, ⟨119, _⟩ => ⟨S32x1x2x16x256, .f32⟩
  | .hbm, ⟨120, _⟩ => ⟨S32x1x32x256, .f32⟩
  | .hbm, ⟨121, _⟩ => ⟨S32x1x32x256, .bf16⟩
  | .local _ .vmem, ⟨0, _⟩ => ⟨S32x1x2x256, .f32⟩
  | .local _ .vmem, ⟨1, _⟩ => ⟨S32x1x2x256, .f32⟩
  | .local _ .vmem, ⟨2, _⟩ => ⟨S32x2048x2x256, .i8⟩
  | .local _ .vmem, ⟨3, _⟩ => ⟨S32x2048x2x256, .i8⟩
  | .local _ .vmem, ⟨4, _⟩ => ⟨S32x1x2x256, .i8⟩
  | .local _ .vmem, ⟨5, _⟩ => ⟨S32x1x2x256, .i8⟩
  | .local _ .vmem, ⟨6, _⟩ => ⟨S32x2048x2x256, .bf16⟩
  | .local _ .vmem, ⟨7, _⟩ => ⟨S32x2048x2x256, .bf16⟩
  | _, _ => ⟨S32x1x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_cst_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_cst_4 : Ref sig .tc := ⟨.hbm, 30, rfl⟩
abbrev main_call2_v0 : Ref sig .tc := ⟨.hbm, 31, rfl⟩
abbrev main_call2_v1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_cst_6 : Ref sig .tc := ⟨.hbm, 39, rfl⟩
abbrev main_call4_v0 : Ref sig .tc := ⟨.hbm, 40, rfl⟩
abbrev main_call4_v1 : Ref sig .tc := ⟨.hbm, 41, rfl⟩
abbrev main_call4_v2 : Ref sig .tc := ⟨.hbm, 42, rfl⟩
abbrev main_call4_v3 : Ref sig .tc := ⟨.hbm, 43, rfl⟩
abbrev main_call4_v4 : Ref sig .tc := ⟨.hbm, 44, rfl⟩
abbrev main_v17 : Ref sig .tc := ⟨.hbm, 45, rfl⟩
abbrev main_v18_0 : Ref sig .tc := ⟨.hbm, 46, rfl⟩
abbrev main_v18_1 : Ref sig .tc := ⟨.hbm, 47, rfl⟩
abbrev main_v18_2 : Ref sig .tc := ⟨.hbm, 48, rfl⟩
abbrev main_v18_3 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_7 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_8 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_9 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_v44 : Ref sig .tc := ⟨.hbm, 81, rfl⟩
abbrev main_cst_10 : Ref sig .tc := ⟨.hbm, 82, rfl⟩
abbrev main_call6_v0 : Ref sig .tc := ⟨.hbm, 83, rfl⟩
abbrev main_call6_v1 : Ref sig .tc := ⟨.hbm, 84, rfl⟩
abbrev main_call6_v2 : Ref sig .tc := ⟨.hbm, 85, rfl⟩
abbrev main_v45 : Ref sig .tc := ⟨.hbm, 86, rfl⟩
abbrev main_cst_11 : Ref sig .tc := ⟨.hbm, 87, rfl⟩
abbrev main_v46 : Ref sig .tc := ⟨.hbm, 88, rfl⟩
abbrev main_v47 : Ref sig .tc := ⟨.hbm, 89, rfl⟩
abbrev main_cst_12 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_13 : Ref sig .tc := ⟨.hbm, 99, rfl⟩
abbrev main_v56 : Ref sig .tc := ⟨.hbm, 100, rfl⟩
abbrev main_v57 : Ref sig .tc := ⟨.hbm, 101, rfl⟩
abbrev main_cst_14 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32x1x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2048x2x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2048x2x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x2x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x2x256 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x2048x2x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x2048x2x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Word.Points.lean ====
/- The schedule of the kernel's pallas_call on its grid of 32 points: at which points each window is fetched
   and at which it is written back, and the body as the pipeline calls it at a point. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%1)) is fetched at the first point only, at any contents of the tables (its index map reads none). -/
theorem fetch0_4 (a : (pcfg0 (F := F)).Adm) : ∀ t : Fin (cfg0 a).N, ((cfg0 a).win 4).fetch t = true ↔ t.val % 32 = 0 :=
  (fun t => Pipeline.Window.fetchOf_const cc0_transform_4 (fun _ _ => rfl) (n := 32) (by decide) t : ∀ t : Fin grid0.N, Pipeline.Window.fetchOf grid0 false cc0_transform_4 t = true ↔ t.val % 32 = 0)
/-- Window 5 (operand 6 (%2)) is fetched at the first point only, at any contents of the tables (its index map reads none). -/
theorem fetch0_5 (a : (pcfg0 (F := F)).Adm) : ∀ t : Fin (cfg0 a).N, ((cfg0 a).win 5).fetch t = true ↔ t.val % 32 = 0 :=
  (fun t => Pipeline.Window.fetchOf_const cc0_transform_5 (fun _ _ => rfl) (n := 32) (by decide) t : ∀ t : Fin grid0.N, Pipeline.Window.fetchOf grid0 false cc0_transform_5 t = true ↔ t.val % 32 = 0)
/-- Window 6 (operand 7 (%arg4)) is fetched at the first point only, at any contents of the tables (its index map reads none). -/
theorem fetch0_6 (a : (pcfg0 (F := F)).Adm) : ∀ t : Fin (cfg0 a).N, ((cfg0 a).win 6).fetch t = true ↔ t.val % 32 = 0 :=
  (fun t => Pipeline.Window.fetchOf_const cc0_transform_6 (fun _ _ => rfl) (n := 32) (by decide) t : ∀ t : Fin grid0.N, Pipeline.Window.fetchOf grid0 false cc0_transform_6 t = true ↔ t.val % 32 = 0)
/-- Window 7 (operand 8 (%3)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 0 (by decide) (by decide) (Pipeline.Window.sep_of_coord cc0_transform_7 0 0 (fun _ => rfl) (by decide)) (P := 1) (by decide) t).mpr (Nat.mod_one _) : ∀ t : Fin grid0.N, Pipeline.Window.fetchOf grid0 false cc0_transform_7 t = true)
/-- Window 8 (operand 9 (%4)) is fetched at every point, at any contents of the tables (its index map reads none). -/
theorem fetch0_8 (a : (pcfg0 (F := F)).Adm) : ∀ t : Fin (cfg0 a).N, ((cfg0 a).win 8).fetch t = true :=
  (fun t => (Pipeline.Window.fetchOf_reads cc0_transform_8 reads0_8 hreads0_8 0 (by decide) (by decide) (Pipeline.Window.sep_of_coord cc0_transform_8 0 0 (fun _ => rfl) (by decide)) (P := 1) (by decide) t).mpr (Nat.mod_one _) : ∀ t : Fin grid0.N, Pipeline.Window.fetchOf grid0 false cc0_transform_8 t = true)
/-- Window 9 (operand 10 (%5)) is fetched at every point, at any contents of the tables (its index map reads none). -/
theorem fetch0_9 (a : (pcfg0 (F := F)).Adm) : ∀ t : Fin (cfg0 a).N, ((cfg0 a).win 9).fetch t = true :=
  (fun t => (Pipeline.Window.fetchOf_reads cc0_transform_9 reads0_9 hreads0_9 0 (by decide) (by decide) (Pipeline.Window.sep_of_coord cc0_transform_9 0 0 (fun _ => rfl) (by decide)) (P := 1) (by decide) t).mpr (Nat.mod_one _) : ∀ t : Fin grid0.N, Pipeline.Window.fetchOf grid0 false cc0_transform_9 t = true)
/-- Window 10 (result 0 (%6#0)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 (result 1 (%6#1)) is written back at the last point only, at any contents of the tables (its index map reads none). -/
theorem flush0_11 (a : (pcfg0 (F := F)).Adm) : ∀ t : Fin (cfg0 a).N, ((cfg0 a).win 11).flush t = true ↔ t.val % 32 = 31 :=
  (fun t => Pipeline.Window.flushOf_const cc0_transform_11 (fun _ _ => rfl) (n := 32) (by decide) rfl t : ∀ t : Fin grid0.N, Pipeline.Window.flushOf grid0 true cc0_transform_11 t = true ↔ t.val % 32 = 31)
/-- Window 12 (result 2 (%6#2)) is written back at the last point only, at any contents of the tables (its index map reads none). -/
theorem flush0_12 (a : (pcfg0 (F := F)).Adm) : ∀ t : Fin (cfg0 a).N, ((cfg0 a).win 12).flush t = true ↔ t.val % 32 = 31 :=
  (fun t => Pipeline.Window.flushOf_const cc0_transform_12 (fun _ _ => rfl) (n := 32) (by decide) rfl t : ∀ t : Fin grid0.N, Pipeline.Window.flushOf grid0 true cc0_transform_12 t = true ↔ t.val % 32 = 31)
/-- Window 13 (result 3 (%6#3)) is written back at the last point only, at any contents of the tables (its index map reads none). -/
theorem flush0_13 (a : (pcfg0 (F := F)).Adm) : ∀ t : Fin (cfg0 a).N, ((cfg0 a).win 13).flush t = true ↔ t.val % 32 = 31 :=
  (fun t => Pipeline.Window.flushOf_const cc0_transform_13 (fun _ _ => rfl) (n := 32) (by decide) rfl t : ∀ t : Fin grid0.N, Pipeline.Window.flushOf grid0 true cc0_transform_13 t = true ↔ t.val % 32 = 31)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_decode_attn (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13))

end Cert.Kernel.Gen

end
-- ==== Proof.Word.Runs.lean ====
/- The frame kit of the kernel: @main around its region, the arrays as the region finds them, the
   prefetched table, the windows' blocks, and what `FramePost` says of the argument arrays. -/
module

public import proofs.«01_k».proof.Proof.Gen.Kernel.Launch
public import proofs.«01_k».proof.Proof.Gen.Kernel.Skeleton
public import proofs.«01_k».proof.Proof.Word.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S32 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      ((h c).1 6).trans (((dats 0 c).arrAt_in 6 rfl _).trans ((hA c 6).trans (V_main_arg4 m c))),
      (((h c).2 main_arg5 (by decide : main_arg5 ∈ Pipeline.restRefs sig spec0)).trans (W_main_arg5 m hO dats c)),
      (((h c).2 main_arg6 (by decide : main_arg6 ∈ Pipeline.restRefs sig spec0)).trans (W_main_arg6 m hO dats c)),
      (((h c).2 main_arg7 (by decide : main_arg7 ∈ Pipeline.restRefs sig spec0)).trans (W_main_arg7 m hO dats c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-- Window 9 is never idle (an input). -/
theorem liveAt0_9 (hO : Ok m) : ∀ t : Fin (cfgM m hO).N, (cfgM m hO).idle 9 (grid0.coords t) = false :=
  (fun _ => rfl : ∀ t : Fin grid0.N, idle0 9 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x32x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2x256 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S32x2x256 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S32x2x256 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S32x2x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x2x2048x256 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x2x2048x256 .i8 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x2x2048 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x32x256 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S2x32x256 .i8 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S2x32x256 .i8 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S32x2 .f32 := spec0_13.stage ((cfgM m hO).slots t 13)
abbrev hs0_13 (hO : Ok m) (t : Fin (cfgM m hO).N) : (ms0_13 m hO t).IsWhole := hstage0_13 (((cfgM m hO).slots t 13).cast nbuf0_13)

end Cert.Kernel.Gen

end
-- ==== Proof.Word.Outs.lean ====
/- What the body leaves in its four output blocks, as functions of the blocks it reads: each a list of stored
   pieces (last first), and that the pieces cover the block. -/
module

public import proofs.«01_k».proof.Proof.Word.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word of the prefetched table (the cache length of the batch row) that the body reads at grid point `i`. -/
def wordAt (c : Dev nD) (i : grid0.Coords) (xt0 : TbBuf0 (F := F) c tbM0_0) : Elt F .i32 :=
  (tbM0_0.access (Rect.unit (s := S32) (k0_off1 i) S1.size (k0_off1_inb i))).read (Elt F) xt0 (Shape.Idx.first (numel1_S1.symm ▸ Nat.one_pos))

/-- The attention rows of head 0 (query rows 0 to 15), from the blocks the body loads. -/
def head0 (v1 : Elt F .i32) (x0 : Vec F S1x32x256 .bf16) (x1 : Vec F S1x2x256 .bf16) (x2 : Vec F S1x2x256 .bf16) (x3 : Vec F S1x2x256 .f32) (x7 : Vec F S1x2x2048x256 .i8) (x8 : Vec F S1x2x2048x256 .i8) (x9 : Vec F S1x2x2048 .f32) : FVec F S1x16x256 .bf16 :=
  k0_pay17 (k0_pay13 v1 (View.ld x0 (Rect.unit (s := S1x32x256) ![0, 0, 0] S1x16x256.size inb_S1x32x256_S1x16x256_0_0_0)) (View.ld x7 (Rect.unit (s := S1x2x2048x256) ![0, 0, 0, 0] S1x1x2048x256.size inb_S1x2x2048x256_S1x1x2048x256_0_0_0_0)) (View.ld x3 (Rect.unit (s := S1x2x256) ![0, 0, 0] S1x1x256.size inb_S1x2x256_S1x1x256_0_0_0))) (k0_pay14 (View.ld x0 (Rect.unit (s := S1x32x256) ![0, 0, 0] S1x16x256.size inb_S1x32x256_S1x16x256_0_0_0)) (View.ld x1 (Rect.unit (s := S1x2x256) ![0, 0, 0] S1x1x256.size inb_S1x2x256_S1x1x256_0_0_0))) (k0_pay15 v1 (View.ld x0 (Rect.unit (s := S1x32x256) ![0, 0, 0] S1x16x256.size inb_S1x32x256_S1x16x256_0_0_0)) (View.ld x7 (Rect.unit (s := S1x2x2048x256) ![0, 0, 0, 0] S1x1x2048x256.size inb_S1x2x2048x256_S1x1x2048x256_0_0_0_0)) (View.ld x3 (Rect.unit (s := S1x2x256) ![0, 0, 0] S1x1x256.size inb_S1x2x256_S1x1x256_0_0_0)) (View.ld x1 (Rect.unit (s := S1x2x256) ![0, 0, 0] S1x1x256.size inb_S1x2x256_S1x1x256_0_0_0))) (k0_pay16 v1 (View.ld x0 (Rect.unit (s := S1x32x256) ![0, 0, 0] S1x16x256.size inb_S1x32x256_S1x16x256_0_0_0)) (View.ld x7 (Rect.unit (s := S1x2x2048x256) ![0, 0, 0, 0] S1x1x2048x256.size inb_S1x2x2048x256_S1x1x2048x256_0_0_0_0)) (View.ld x3 (Rect.unit (s := S1x2x256) ![0, 0, 0] S1x1x256.size inb_S1x2x256_S1x1x256_0_0_0)) (View.ld x1 (Rect.unit (s := S1x2x256) ![0, 0, 0] S1x1x256.size inb_S1x2x256_S1x1x256_0_0_0))) (View.ld x9 (Rect.unit (s := S1x2x2048) ![0, 0, 0] S1x1x2048.size inb_S1x2x2048_S1x1x2048_0_0_0)) (View.ld x8 (Rect.unit (s := S1x2x2048x256) ![0, 0, 0, 0] S1x1x2048x256.size inb_S1x2x2048x256_S1x1x2048x256_0_0_0_0)) (View.ld x2 (Rect.unit (s := S1x2x256) ![0, 0, 0] S1x1x256.size inb_S1x2x256_S1x1x256_0_0_0))

/-- The attention rows of head 1 (query rows 16 to 31), from the blocks the body loads. -/
def head1 (v1 : Elt F .i32) (x0 : Vec F S1x32x256 .bf16) (x1 : Vec F S1x2x256 .bf16) (x2 : Vec F S1x2x256 .bf16) (x3 : Vec F S1x2x256 .f32) (x7 : Vec F S1x2x2048x256 .i8) (x8 : Vec F S1x2x2048x256 .i8) (x9 : Vec F S1x2x2048 .f32) : FVec F S1x16x256 .bf16 :=
  k0_pay1 (k0_pay24 v1 (k0_pay18 (View.ld x0 (Rect.unit (s := S1x32x256) ![0, 16, 0] S1x16x256.size inb_S1x32x256_S1x16x256_0_16_0))) (k0_pay19 (View.ld x7 (Rect.unit (s := S1x2x2048x256) ![0, 1, 0, 0] S1x1x2048x256.size inb_S1x2x2048x256_S1x1x2048x256_0_1_0_0))) (View.ld x3 (Rect.unit (s := S1x2x256) ![0, 1, 0] S1x1x256.size inb_S1x2x256_S1x1x256_0_1_0)) (View.ld x1 (Rect.unit (s := S1x2x256) ![0, 1, 0] S1x1x256.size inb_S1x2x256_S1x1x256_0_1_0))) (k0_pay25 v1 (k0_pay18 (View.ld x0 (Rect.unit (s := S1x32x256) ![0, 16, 0] S1x16x256.size inb_S1x32x256_S1x16x256_0_16_0))) (k0_pay19 (View.ld x7 (Rect.unit (s := S1x2x2048x256) ![0, 1, 0, 0] S1x1x2048x256.size inb_S1x2x2048x256_S1x1x2048x256_0_1_0_0))) (View.ld x3 (Rect.unit (s := S1x2x256) ![0, 1, 0] S1x1x256.size inb_S1x2x256_S1x1x256_0_1_0)) (View.ld x1 (Rect.unit (s := S1x2x256) ![0, 1, 0] S1x1x256.size inb_S1x2x256_S1x1x256_0_1_0))) (k0_pay26 v1 (k0_pay18 (View.ld x0 (Rect.unit (s := S1x32x256) ![0, 16, 0] S1x16x256.size inb_S1x32x256_S1x16x256_0_16_0))) (k0_pay19 (View.ld x7 (Rect.unit (s := S1x2x2048x256) ![0, 1, 0, 0] S1x1x2048x256.size inb_S1x2x2048x256_S1x1x2048x256_0_1_0_0))) (View.ld x3 (Rect.unit (s := S1x2x256) ![0, 1, 0] S1x1x256.size inb_S1x2x256_S1x1x256_0_1_0)) (View.ld x1 (Rect.unit (s := S1x2x256) ![0, 1, 0] S1x1x256.size inb_S1x2x256_S1x1x256_0_1_0)) (View.ld x9 (Rect.unit (s := S1x2x2048) ![0, 1, 0] S1x1x2048.size inb_S1x2x2048_S1x1x2048_0_1_0))) (View.ld x8 (Rect.unit (s := S1x2x2048x256) ![0, 1, 0, 0] S1x1x2048x256.size inb_S1x2x2048x256_S1x1x2048x256_0_1_0_0)) (View.ld x2 (Rect.unit (s := S1x2x256) ![0, 1, 0] S1x1x256.size inb_S1x2x256_S1x1x256_0_1_0))

/-- What the body leaves in the attention block: the two heads' rows. -/
def out10 (v1 : Elt F .i32) (x0 : Vec F S1x32x256 .bf16) (x1 : Vec F S1x2x256 .bf16) (x2 : Vec F S1x2x256 .bf16) (x3 : Vec F S1x2x256 .f32) (x7 : Vec F S1x2x2048x256 .i8) (x8 : Vec F S1x2x2048x256 .i8) (x9 : Vec F S1x2x2048 .f32) : Vec F S1x32x256 .bf16 :=
  View.canon [⟨(Rect.unit (s := S1x32x256) ![0, 16, 0] S1x16x256.size inb_S1x32x256_S1x16x256_0_16_0), head1 v1 x0 x1 x2 x3 x7 x8 x9⟩, ⟨(Rect.unit (s := S1x32x256) ![0, 0, 0] S1x16x256.size inb_S1x32x256_S1x16x256_0_0_0), head0 v1 x0 x1 x2 x3 x7 x8 x9⟩]

/-- What the body leaves in the block of key codes at the first point. -/
def out11 (x4 : Vec F S32x2x256 .bf16) (x6 : Vec F S32x2x256 .f32) : Vec F S2x32x256 .i8 :=
  View.canon [⟨(Rect.unit (s := S2x32x256) ![1, 0, 0] S1x32x256.size inb_S2x32x256_S1x32x256_1_0_0), k0_pay7 (View.ld x4 (Rect.unit (s := S32x2x256) ![0, 1, 0] S32x1x256.size inb_S32x2x256_S32x1x256_0_1_0)) (View.ld x6 (Rect.unit (s := S32x2x256) ![0, 1, 0] S32x1x256.size inb_S32x2x256_S32x1x256_0_1_0))⟩, ⟨(Rect.unit (s := S2x32x256) ![0, 0, 0] S1x32x256.size inb_S2x32x256_S1x32x256_0_0_0), k0_pay2 (View.ld x4 (Rect.unit (s := S32x2x256) ![0, 0, 0] S32x1x256.size inb_S32x2x256_S32x1x256_0_0_0)) (View.ld x6 (Rect.unit (s := S32x2x256) ![0, 0, 0] S32x1x256.size inb_S32x2x256_S32x1x256_0_0_0))⟩]

/-- What the body leaves in the block of value codes at the first point. -/
def out12 (x5 : Vec F S32x2x256 .bf16) : Vec F S2x32x256 .i8 :=
  View.canon [⟨(Rect.unit (s := S2x32x256) ![1, 0, 0] S1x32x256.size inb_S2x32x256_S1x32x256_1_0_0), k0_pay11 (Scalar.ofBits .f32 0x42FE0000#32) (k0_pay10 (View.ld x5 (Rect.unit (s := S32x2x256) ![0, 1, 0] S32x1x256.size inb_S32x2x256_S32x1x256_0_1_0)))⟩, ⟨(Rect.unit (s := S2x32x256) ![0, 0, 0] S1x32x256.size inb_S2x32x256_S1x32x256_0_0_0), k0_pay6 (k0_pay5 (View.ld x5 (Rect.unit (s := S32x2x256) ![0, 0, 0] S32x1x256.size inb_S32x2x256_S32x1x256_0_0_0)))⟩]

/-- What the body leaves in the block of value scales at the first point. -/
def out13 (x5 : Vec F S32x2x256 .bf16) : Vec F S32x2 .f32 :=
  View.canon [⟨(Rect.unit (s := S32x2) ![0, 1] S32x1.size inb_S32x2_S32x1_0_1), k0_pay9 (View.ld x5 (Rect.unit (s := S32x2x256) ![0, 1, 0] S32x1x256.size inb_S32x2x256_S32x1x256_0_1_0))⟩, ⟨(Rect.unit (s := S32x2) ![0, 0] S32x1.size inb_S32x2_S32x1_0_0), k0_pay4 (View.ld x5 (Rect.unit (s := S32x2x256) ![0, 0, 0] S32x1x256.size inb_S32x2x256_S32x1x256_0_0_0))⟩]

/-- The two stores into the attention block cover it. -/
theorem cover10 (a b : FVec F S1x16x256 .bf16) (y : S1x32x256.Idx) :
    ∃ p ∈ ([⟨(Rect.unit (s := S1x32x256) ![0, 16, 0] S1x16x256.size inb_S1x32x256_S1x16x256_0_16_0), a⟩, ⟨(Rect.unit (s := S1x32x256) ![0, 0, 0] S1x16x256.size inb_S1x32x256_S1x16x256_0_0_0), b⟩] : List (View.Piece (Elt F) S1x32x256 .bf16)), y ∈ p.1.set :=
  View.cover_of_tiledL (s := S1x32x256) _ S1x16x256.size (by sl_kernel_rfl) y
/-- The two stores into a block of codes cover it. -/
theorem cover11 (a b : IVec S1x32x256 8) (y : S2x32x256.Idx) :
    ∃ p ∈ ([⟨(Rect.unit (s := S2x32x256) ![1, 0, 0] S1x32x256.size inb_S2x32x256_S1x32x256_1_0_0), a⟩, ⟨(Rect.unit (s := S2x32x256) ![0, 0, 0] S1x32x256.size inb_S2x32x256_S1x32x256_0_0_0), b⟩] : List (View.Piece (Elt F) S2x32x256 .i8)), y ∈ p.1.set :=
  View.cover_of_tiledL (s := S2x32x256) _ S1x32x256.size (by sl_kernel_rfl) y
/-- The two stores into the block of scales cover it. -/
theorem cover13 (a b : FVec F S32x1 .f32) (y : S32x2.Idx) :
    ∃ p ∈ ([⟨(Rect.unit (s := S32x2) ![0, 1] S32x1.size inb_S32x2_S32x1_0_1), a⟩, ⟨(Rect.unit (s := S32x2) ![0, 0] S32x1.size inb_S32x2_S32x1_0_0), b⟩] : List (View.Piece (Elt F) S32x2 .f32)), y ∈ p.1.set :=
  View.cover_of_tiledL (s := S32x2) _ S32x1.size (by sl_kernel_rfl) y

end Cert.Kernel.Gen

end
-- ==== Proof.Word.RunA.lean ====
/- The run of the kernel body at the first grid point. -/
module

public import proofs.«01_k».proof.Proof.Word.Outs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple at the first grid point (the conditional taken): on whole staging memrefs, the inputs' at their
    contents and the outputs' at anything, the body runs to the continuation holding the inputs' as they were and the
    four outputs at `out10` to `out13`. -/
theorem kernelRun0_A (c : Dev nD) (i : grid0.Coords) (arg2 : Memref sig .tc .vmem S1x32x256 .bf16) (harg2 : arg2.IsWhole) (arg3 : Memref sig .tc .vmem S1x2x256 .bf16) (harg3 : arg3.IsWhole) (arg4 : Memref sig .tc .vmem S1x2x256 .bf16) (harg4 : arg4.IsWhole) (arg5 : Memref sig .tc .vmem S1x2x256 .f32) (harg5 : arg5.IsWhole) (arg6 : Memref sig .tc .vmem S32x2x256 .bf16) (harg6 : arg6.IsWhole) (arg7 : Memref sig .tc .vmem S32x2x256 .bf16) (harg7 : arg7.IsWhole) (arg8 : Memref sig .tc .vmem S32x2x256 .f32) (harg8 : arg8.IsWhole) (arg9 : Memref sig .tc .vmem S1x2x2048x256 .i8) (harg9 : arg9.IsWhole) (arg10 : Memref sig .tc .vmem S1x2x2048x256 .i8) (harg10 : arg10.IsWhole) (arg11 : Memref sig .tc .vmem S1x2x2048 .f32) (harg11 : arg11.IsWhole) (arg12 : Memref sig .tc .vmem S1x32x256 .bf16) (harg12 : arg12.IsWhole) (arg13 : Memref sig .tc .vmem S2x32x256 .i8) (harg13 : arg13.IsWhole) (arg14 : Memref sig .tc .vmem S2x32x256 .i8) (harg14 : arg14.IsWhole) (arg15 : Memref sig .tc .vmem S32x2 .f32) (harg15 : arg15.IsWhole) (hc0 : cond0_0 i)
    (x0 : Vec F S1x32x256 .bf16) (x1 : Vec F S1x2x256 .bf16) (x2 : Vec F S1x2x256 .bf16) (x3 : Vec F S1x2x256 .f32) (x4 : Vec F S32x2x256 .bf16) (x5 : Vec F S32x2x256 .bf16) (x6 : Vec F S32x2x256 .f32) (x7 : Vec F S1x2x2048x256 .i8) (x8 : Vec F S1x2x2048x256 .i8) (x9 : Vec F S1x2x2048 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out10 (wordAt c i xt0) x0 x1 x2 x3 x7 x8 x9) ∗ owns (c : Thread nD τ) arg13 fullShare (out11 x4 x6) ∗ owns (c : Thread nD τ) arg14 fullShare (out12 x5) ∗ owns (c : Thread nD τ) arg15 fullShare (out13 x5) ∗ tbPt0 c tbM0_0 xt0) -∗ K ⟨⟩))
          ⊢ wp frame (wpE (defs₀ (F := F)) Variants.none c none) E (cc0_decode_attn i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_decode_attn_eq_skeleton]; unfold cc0_decode_attn_skel
    simp only [k0_part3_eq_skeleton, k0_part1_eq_skeleton, k0_part2_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro
      refine (View.read_writes_eq_canon _ _ _ (fun y => cover10 (F := F) _ _ y)).trans ?_
      refine Eq.trans (b := out10 (wordAt c i xt0) (View.read (Elt F) arg2.view (harg2.unread x0)) (View.read (Elt F) arg3.view (harg3.unread x1)) (View.read (Elt F) arg4.view (harg4.unread x2)) (View.read (Elt F) arg5.view (harg5.unread x3)) (View.read (Elt F) arg9.view (harg9.unread x7)) (View.read (Elt F) arg10.view (harg10.unread x8)) (View.read (Elt F) arg11.view (harg11.unread x9))) ?_ (by simp only [hf0, hf1, hf2, hf3, hf7, hf8, hf9])
      rfl
    isplitl [H11]
    · iexists _; isplitr; swap; · iexact H11
      ipureintro
      refine (View.read_writes_eq_canon _ _ _ (fun y => cover11 (F := F) _ _ y)).trans ?_
      refine Eq.trans (b := out11 (View.read (Elt F) arg6.view (harg6.unread x4)) (View.read (Elt F) arg8.view (harg8.unread x6))) ?_ (by simp only [hf4, hf6])
      rfl
    isplitl [H12]
    · iexists _; isplitr; swap; · iexact H12
      ipureintro
      refine (View.read_writes_eq_canon _ _ _ (fun y => cover11 (F := F) _ _ y)).trans ?_
      refine Eq.trans (b := out12 (View.read (Elt F) arg7.view (harg7.unread x5))) ?_ (by simp only [hf5])
      rfl
    isplitl [H13]
    · iexists _; isplitr; swap; · iexact H13
      ipureintro
      refine (View.read_writes_eq_canon _ _ _ (fun y => cover13 (F := F) _ _ y)).trans ?_
      refine Eq.trans (b := out13 (View.read (Elt F) arg7.view (harg7.unread x5))) ?_ (by simp only [hf5])
      rfl
    iexact HT0

end Cert.Kernel.Gen

end
-- ==== Proof.Word.RunB.lean ====
/- The run of the kernel body at the grid points after the first. -/
module

public import proofs.«01_k».proof.Proof.Word.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple at every later grid point (the conditional not taken): the inputs' staging memrefs at their
    contents and the attention block at anything, the body runs to the continuation holding the inputs' as they were and
    the attention block at `out10`. The three blocks of new-token codes and scales are not touched. -/
theorem kernelRun0_B (c : Dev nD) (i : grid0.Coords) (arg2 : Memref sig .tc .vmem S1x32x256 .bf16) (harg2 : arg2.IsWhole) (arg3 : Memref sig .tc .vmem S1x2x256 .bf16) (harg3 : arg3.IsWhole) (arg4 : Memref sig .tc .vmem S1x2x256 .bf16) (harg4 : arg4.IsWhole) (arg5 : Memref sig .tc .vmem S1x2x256 .f32) (harg5 : arg5.IsWhole) (arg6 : Memref sig .tc .vmem S32x2x256 .bf16) (harg6 : arg6.IsWhole) (arg7 : Memref sig .tc .vmem S32x2x256 .bf16) (harg7 : arg7.IsWhole) (arg8 : Memref sig .tc .vmem S32x2x256 .f32) (harg8 : arg8.IsWhole) (arg9 : Memref sig .tc .vmem S1x2x2048x256 .i8) (harg9 : arg9.IsWhole) (arg10 : Memref sig .tc .vmem S1x2x2048x256 .i8) (harg10 : arg10.IsWhole) (arg11 : Memref sig .tc .vmem S1x2x2048 .f32) (harg11 : arg11.IsWhole) (arg12 : Memref sig .tc .vmem S1x32x256 .bf16) (harg12 : arg12.IsWhole) (arg13 : Memref sig .tc .vmem S2x32x256 .i8) (harg13 : arg13.IsWhole) (arg14 : Memref sig .tc .vmem S2x32x256 .i8) (harg14 : arg14.IsWhole) (arg15 : Memref sig .tc .vmem S32x2 .f32) (harg15 : arg15.IsWhole) (hc0 : ¬cond0_0 i)
    (x0 : Vec F S1x32x256 .bf16) (x1 : Vec F S1x2x256 .bf16) (x2 : Vec F S1x2x256 .bf16) (x3 : Vec F S1x2x256 .f32) (x4 : Vec F S32x2x256 .bf16) (x5 : Vec F S32x2x256 .bf16) (x6 : Vec F S32x2x256 .f32) (x7 : Vec F S1x2x2048x256 .i8) (x8 : Vec F S1x2x2048x256 .i8) (x9 : Vec F S1x2x2048 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out10 (wordAt c i xt0) x0 x1 x2 x3 x7 x8 x9) ∗ tbPt0 c tbM0_0 xt0) -∗ K ⟨⟩))
          ⊢ wp frame (wpE (defs₀ (F := F)) Variants.none c none) E (cc0_decode_attn i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_decode_attn_eq_skeleton]; unfold cc0_decode_attn_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro
      refine (View.read_writes_eq_canon _ _ _ (fun y => cover10 (F := F) _ _ y)).trans ?_
      refine Eq.trans (b := out10 (wordAt c i xt0) (View.read (Elt F) arg2.view (harg2.unread x0)) (View.read (Elt F) arg3.view (harg3.unread x1)) (View.read (Elt F) arg4.view (harg4.unread x2)) (View.read (Elt F) arg5.view (harg5.unread x3)) (View.read (Elt F) arg9.view (harg9.unread x7)) (View.read (Elt F) arg10.view (harg10.unread x8)) (View.read (Elt F) arg11.view (harg11.unread x9))) ?_ (by simp only [hf0, hf1, hf2, hf3, hf7, hf8, hf9])
      rfl
    iexact HT0

end Cert.Kernel.Gen

end
-- ==== Proof.Word.Frame.lean ====
/- The kernel's run, its outputs named: the proof data, the body obligation at every grid point, the run of
   @main and the frame claim. -/
module

public import proofs.«01_k».proof.Proof.Word.RunB
public import Idealize.ShloMosaic.Lib.Claim
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The first grid point. -/
abbrev tFirst (hO : Ok m) : Fin (cfgM m hO).N := (⟨0, by decide⟩ : Fin grid0.N)

/-- The proof data of the one pipeline on core `c`: the arrays as the region finds them; after the body at point `t`
    each input's buffer at its block, the attention block at `out10` of the blocks there, and the three blocks of
    new-token codes and scales at what the first point stored (the later points leave them alone). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => out10 (wordAt c (grid0.coords t) (tbl m 0)) (iblk m hO c 0 t) (iblk m hO c 1 t) (iblk m hO c 2 t) (iblk m hO c 3 t) (iblk m hO c 7 t) (iblk m hO c 8 t) (iblk m hO c 9 t)
    | ⟨11, _⟩ => out11 (iblk m hO c 4 (tFirst m hO)) (iblk m hO c 6 (tFirst m hO))
    | ⟨12, _⟩ => out12 (iblk m hO c 5 (tFirst m hO))
    | ⟨13, _⟩ => out13 (iblk m hO c 5 (tFirst m hO))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl

theorem after0_10 (hO : Ok m) (c : Dev nD) (t : Fin (cfgM m hO).N) : (dats m hO 0 c).after 10 t = out10 (wordAt c (grid0.coords t) (tbl m 0)) (iblk m hO c 0 t) (iblk m hO c 1 t) (iblk m hO c 2 t) (iblk m hO c 3 t) (iblk m hO c 7 t) (iblk m hO c 8 t) (iblk m hO c 9 t) := by dsimp only [dats]; try rfl
theorem after0_11 (hO : Ok m) (c : Dev nD) (t : Fin (cfgM m hO).N) : (dats m hO 0 c).after 11 t = out11 (iblk m hO c 4 (tFirst m hO)) (iblk m hO c 6 (tFirst m hO)) := by dsimp only [dats]; try rfl
theorem after0_12 (hO : Ok m) (c : Dev nD) (t : Fin (cfgM m hO).N) : (dats m hO 0 c).after 12 t = out12 (iblk m hO c 5 (tFirst m hO)) := by dsimp only [dats]; try rfl
theorem after0_13 (hO : Ok m) (c : Dev nD) (t : Fin (cfgM m hO).N) : (dats m hO 0 c).after 13 t = out13 (iblk m hO c 5 (tFirst m hO)) := by dsimp only [dats]; try rfl

/-- The attention block is written at every point. -/
theorem liveAt0_10 (hO : Ok m) : ∀ t : Fin (cfgM m hO).N, (cfgM m hO).idle 10 (grid0.coords t) = false :=
  (fun _ => rfl : ∀ t : Fin grid0.N, idle0 10 (grid0.coords t) = false)

/-- Window 11 is written at the first point -/
theorem liveAt0_11 (hO : Ok m) (t : Fin (cfgM m hO).N) (h : t.val % 32 = 0) : (cfgM m hO).idle 11 (grid0.coords t) = false := by
  have hc : k0_cond1 (grid0.coords t) = 1#1 := (hcond0_0 t).mpr h
  show (!(k0_cond1 (grid0.coords t) == 1#1)) = false
  rw [hc]; rfl
/-- and idle at the others. -/
theorem idleAt0_11 (hO : Ok m) (t : Fin (cfgM m hO).N) (h : ¬ t.val % 32 = 0) : (cfgM m hO).idle 11 (grid0.coords t) = true := by
  have hc : ¬ k0_cond1 (grid0.coords t) = 1#1 := fun e => h ((hcond0_0 t).mp e)
  show (!(k0_cond1 (grid0.coords t) == 1#1)) = true
  rw [beq_false_of_ne hc]; rfl
/-- After the first point its buffer always holds something stored. -/
theorem fresh0_11 (hO : Ok m) : ∀ n : ℕ, 0 < n → n < 32 → (cfgM m hO).fresh 11 n = false
  | 0, h, _ => absurd h (lt_irrefl 0)
  | n + 1, _, hn => by
    have hN : n < (cfgM m hO).N := lt_of_lt_of_eq (by omega) (show (cfgM m hO).N = 32 from N_0).symm
    rw [Pipeline.Cfg.fresh_succ _ _ n hN]
    have hfl : ((cfgM m hO).win 11).flush ⟨n, hN⟩ = false := by
      rw [← Bool.not_eq_true, flush0_11 (adm m hO) ⟨n, hN⟩]; simp only; omega
    rw [hfl, Bool.false_or]
    by_cases h0 : n = 0
    · rw [show (cfgM m hO).idle 11 ((cfgM m hO).grid.coords ⟨n, hN⟩) = false from liveAt0_11 m hO ⟨n, hN⟩ (by simp only; omega)]; try rfl
    · rw [fresh0_11 hO n (by omega) (by omega), Bool.and_false]
/-- So at every point after the first the body finds there what the first point stored. -/
theorem before0_11 (hO : Ok m) (c : Dev nD) (t : Fin (cfgM m hO).N) (h : ¬ t.val % 32 = 0) (d) :
    (dats m hO 0 c).before 11 t d = (dats m hO 0 c).after 11 t := by
  have hN : t.val < 32 := lt_of_lt_of_eq t.isLt (show (cfgM m hO).N = 32 from N_0)
  rw [(dats m hO 0 c).before_out_traj 11 rfl (fun _ _ => rfl) (fun t' _ _ _ => by rw [after0_11, after0_11]) t.val t rfl d,
    fresh0_11 m hO t.val (by omega) hN, if_neg Bool.false_ne_true, after0_11, after0_11]
/-- What the body owes of the window at a later point, from what it was handed. -/
theorem leaves0_11 (hO : Ok m) (c : Dev nD) (t : Fin (cfgM m hO).N) (h : ¬ t.val % 32 = 0) (d) :
    owns (c : Thread nD τ) (ms0_11 m hO t) fullShare ((dats m hO 0 c).before 11 t d) ⊢ ((dats m hO 0 c).leavesExact 11 t : sProp 𝕄) := by
  cases hf : ((cfgM m hO).win 11).flush t
  · rw [(dats m hO 0 c).leavesExact_idle 11 t (idleAt0_11 m hO t h) hf]
    iintro H; iexists d; iexact H
  · rw [before0_11 m hO c t h]
    rw [show (dats m hO 0 c).leavesExact 11 t = owns (c : Thread nD τ) (ms0_11 m hO t) fullShare ((dats m hO 0 c).after 11 t) from by
      unfold Dat.leavesExact; rw [idleAt0_11 m hO t h, hf]; try rfl]

/-- Window 12 is written at the first point -/
theorem liveAt0_12 (hO : Ok m) (t : Fin (cfgM m hO).N) (h : t.val % 32 = 0) : (cfgM m hO).idle 12 (grid0.coords t) = false := by
  have hc : k0_cond1 (grid0.coords t) = 1#1 := (hcond0_0 t).mpr h
  show (!(k0_cond1 (grid0.coords t) == 1#1)) = false
  rw [hc]; rfl
/-- and idle at the others. -/
theorem idleAt0_12 (hO : Ok m) (t : Fin (cfgM m hO).N) (h : ¬ t.val % 32 = 0) : (cfgM m hO).idle 12 (grid0.coords t) = true := by
  have hc : ¬ k0_cond1 (grid0.coords t) = 1#1 := fun e => h ((hcond0_0 t).mp e)
  show (!(k0_cond1 (grid0.coords t) == 1#1)) = true
  rw [beq_false_of_ne hc]; rfl
/-- After the first point its buffer always holds something stored. -/
theorem fresh0_12 (hO : Ok m) : ∀ n : ℕ, 0 < n → n < 32 → (cfgM m hO).fresh 12 n = false
  | 0, h, _ => absurd h (lt_irrefl 0)
  | n + 1, _, hn => by
    have hN : n < (cfgM m hO).N := lt_of_lt_of_eq (by omega) (show (cfgM m hO).N = 32 from N_0).symm
    rw [Pipeline.Cfg.fresh_succ _ _ n hN]
    have hfl : ((cfgM m hO).win 12).flush ⟨n, hN⟩ = false := by
      rw [← Bool.not_eq_true, flush0_12 (adm m hO) ⟨n, hN⟩]; simp only; omega
    rw [hfl, Bool.false_or]
    by_cases h0 : n = 0
    · rw [show (cfgM m hO).idle 12 ((cfgM m hO).grid.coords ⟨n, hN⟩) = false from liveAt0_12 m hO ⟨n, hN⟩ (by simp only; omega)]; try rfl
    · rw [fresh0_12 hO n (by omega) (by omega), Bool.and_false]
/-- So at every point after the first the body finds there what the first point stored. -/
theorem before0_12 (hO : Ok m) (c : Dev nD) (t : Fin (cfgM m hO).N) (h : ¬ t.val % 32 = 0) (d) :
    (dats m hO 0 c).before 12 t d = (dats m hO 0 c).after 12 t := by
  have hN : t.val < 32 := lt_of_lt_of_eq t.isLt (show (cfgM m hO).N = 32 from N_0)
  rw [(dats m hO 0 c).before_out_traj 12 rfl (fun _ _ => rfl) (fun t' _ _ _ => by rw [after0_12, after0_12]) t.val t rfl d,
    fresh0_12 m hO t.val (by omega) hN, if_neg Bool.false_ne_true, after0_12, after0_12]
/-- What the body owes of the window at a later point, from what it was handed. -/
theorem leaves0_12 (hO : Ok m) (c : Dev nD) (t : Fin (cfgM m hO).N) (h : ¬ t.val % 32 = 0) (d) :
    owns (c : Thread nD τ) (ms0_12 m hO t) fullShare ((dats m hO 0 c).before 12 t d) ⊢ ((dats m hO 0 c).leavesExact 12 t : sProp 𝕄) := by
  cases hf : ((cfgM m hO).win 12).flush t
  · rw [(dats m hO 0 c).leavesExact_idle 12 t (idleAt0_12 m hO t h) hf]
    iintro H; iexists d; iexact H
  · rw [before0_12 m hO c t h]
    rw [show (dats m hO 0 c).leavesExact 12 t = owns (c : Thread nD τ) (ms0_12 m hO t) fullShare ((dats m hO 0 c).after 12 t) from by
      unfold Dat.leavesExact; rw [idleAt0_12 m hO t h, hf]; try rfl]

/-- Window 13 is written at the first point -/
theorem liveAt0_13 (hO : Ok m) (t : Fin (cfgM m hO).N) (h : t.val % 32 = 0) : (cfgM m hO).idle 13 (grid0.coords t) = false := by
  have hc : k0_cond1 (grid0.coords t) = 1#1 := (hcond0_0 t).mpr h
  show (!(k0_cond1 (grid0.coords t) == 1#1)) = false
  rw [hc]; rfl
/-- and idle at the others. -/
theorem idleAt0_13 (hO : Ok m) (t : Fin (cfgM m hO).N) (h : ¬ t.val % 32 = 0) : (cfgM m hO).idle 13 (grid0.coords t) = true := by
  have hc : ¬ k0_cond1 (grid0.coords t) = 1#1 := fun e => h ((hcond0_0 t).mp e)
  show (!(k0_cond1 (grid0.coords t) == 1#1)) = true
  rw [beq_false_of_ne hc]; rfl
/-- After the first point its buffer always holds something stored. -/
theorem fresh0_13 (hO : Ok m) : ∀ n : ℕ, 0 < n → n < 32 → (cfgM m hO).fresh 13 n = false
  | 0, h, _ => absurd h (lt_irrefl 0)
  | n + 1, _, hn => by
    have hN : n < (cfgM m hO).N := lt_of_lt_of_eq (by omega) (show (cfgM m hO).N = 32 from N_0).symm
    rw [Pipeline.Cfg.fresh_succ _ _ n hN]
    have hfl : ((cfgM m hO).win 13).flush ⟨n, hN⟩ = false := by
      rw [← Bool.not_eq_true, flush0_13 (adm m hO) ⟨n, hN⟩]; simp only; omega
    rw [hfl, Bool.false_or]
    by_cases h0 : n = 0
    · rw [show (cfgM m hO).idle 13 ((cfgM m hO).grid.coords ⟨n, hN⟩) = false from liveAt0_13 m hO ⟨n, hN⟩ (by simp only; omega)]; try rfl
    · rw [fresh0_13 hO n (by omega) (by omega), Bool.and_false]
/-- So at every point after the first the body finds there what the first point stored. -/
theorem before0_13 (hO : Ok m) (c : Dev nD) (t : Fin (cfgM m hO).N) (h : ¬ t.val % 32 = 0) (d) :
    (dats m hO 0 c).before 13 t d = (dats m hO 0 c).after 13 t := by
  have hN : t.val < 32 := lt_of_lt_of_eq t.isLt (show (cfgM m hO).N = 32 from N_0)
  rw [(dats m hO 0 c).before_out_traj 13 rfl (fun _ _ => rfl) (fun t' _ _ _ => by rw [after0_13, after0_13]) t.val t rfl d,
    fresh0_13 m hO t.val (by omega) hN, if_neg Bool.false_ne_true, after0_13, after0_13]
/-- What the body owes of the window at a later point, from what it was handed. -/
theorem leaves0_13 (hO : Ok m) (c : Dev nD) (t : Fin (cfgM m hO).N) (h : ¬ t.val % 32 = 0) (d) :
    owns (c : Thread nD τ) (ms0_13 m hO t) fullShare ((dats m hO 0 c).before 13 t d) ⊢ ((dats m hO 0 c).leavesExact 13 t : sProp 𝕄) := by
  cases hf : ((cfgM m hO).win 13).flush t
  · rw [(dats m hO 0 c).leavesExact_idle 13 t (idleAt0_13 m hO t h) hf]
    iintro H; iexists d; iexact H
  · rw [before0_13 m hO c t h]
    rw [show (dats m hO 0 c).leavesExact 13 t = owns (c : Thread nD τ) (ms0_13 m hO t) fullShare ((dats m hO 0 c).after 13 t) from by
      unfold Dat.leavesExact; rw [idleAt0_13 m hO t h, hf]; try rfl]

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t)

set_option maxHeartbeats 2400000 in
/-- The body at any point: the inputs' memrefs hold their blocks; the point is the first one or a later one, and the
    run of that case applies. At a later point the three blocks the body does not touch go back as they came. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq]
  have hN : t.val < 32 := lt_of_lt_of_eq t.isLt (show (cfgM m hO).N = 32 from N_0)
  by_cases h0 : t.val % 32 = 0
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    rw [show (dats m hO 0 c).leavesExact 6 t = owns (c : Thread nD τ) (ms0_6 m hO t) fullShare ((dats m hO 0 c).after 6 t) from by
      unfold Dat.leavesExact; rw [liveAt0_6 m hO t]; try rfl, after0_6]
    rw [show (dats m hO 0 c).leavesExact 7 t = owns (c : Thread nD τ) (ms0_7 m hO t) fullShare ((dats m hO 0 c).after 7 t) from by
      unfold Dat.leavesExact; rw [liveAt0_7 m hO t]; try rfl, after0_7]
    rw [show (dats m hO 0 c).leavesExact 8 t = owns (c : Thread nD τ) (ms0_8 m hO t) fullShare ((dats m hO 0 c).after 8 t) from by
      unfold Dat.leavesExact; rw [liveAt0_8 m hO t]; try rfl, after0_8]
    rw [show (dats m hO 0 c).leavesExact 9 t = owns (c : Thread nD τ) (ms0_9 m hO t) fullShare ((dats m hO 0 c).after 9 t) from by
      unfold Dat.leavesExact; rw [liveAt0_9 m hO t]; try rfl, after0_9]
    rw [show (dats m hO 0 c).leavesExact 10 t = owns (c : Thread nD τ) (ms0_10 m hO t) fullShare ((dats m hO 0 c).after 10 t) from by
      unfold Dat.leavesExact; rw [liveAt0_10 m hO t]; try rfl, after0_10]
    rw [show (dats m hO 0 c).leavesExact 11 t = owns (c : Thread nD τ) (ms0_11 m hO t) fullShare ((dats m hO 0 c).after 11 t) from by
      unfold Dat.leavesExact; rw [liveAt0_11 m hO t h0]; try rfl, after0_11]
    rw [show (dats m hO 0 c).leavesExact 12 t = owns (c : Thread nD τ) (ms0_12 m hO t) fullShare ((dats m hO 0 c).after 12 t) from by
      unfold Dat.leavesExact; rw [liveAt0_12 m hO t h0]; try rfl, after0_12]
    rw [show (dats m hO 0 c).leavesExact 13 t = owns (c : Thread nD τ) (ms0_13 m hO t) fullShare ((dats m hO 0 c).after 13 t) from by
      unfold Dat.leavesExact; rw [liveAt0_13 m hO t h0]; try rfl, after0_13]
    have ht : tFirst m hO = t := (Fin.ext (show t.val = 0 by have hN : t.val < 32 := lt_of_lt_of_eq t.isLt (show (cfgM m hO).N = 32 from N_0); omega)).symm
    rw [ht]
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HT0]; · iexact HT0
    iintro ⟨H0, H1, H2, H3, H4, H5, H6, H7, H8, H9, H10, H11, H12, H13, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    rw [show (dats m hO 0 c).leavesExact 6 t = owns (c : Thread nD τ) (ms0_6 m hO t) fullShare ((dats m hO 0 c).after 6 t) from by
      unfold Dat.leavesExact; rw [liveAt0_6 m hO t]; try rfl, after0_6]
    rw [show (dats m hO 0 c).leavesExact 7 t = owns (c : Thread nD τ) (ms0_7 m hO t) fullShare ((dats m hO 0 c).after 7 t) from by
      unfold Dat.leavesExact; rw [liveAt0_7 m hO t]; try rfl, after0_7]
    rw [show (dats m hO 0 c).leavesExact 8 t = owns (c : Thread nD τ) (ms0_8 m hO t) fullShare ((dats m hO 0 c).after 8 t) from by
      unfold Dat.leavesExact; rw [liveAt0_8 m hO t]; try rfl, after0_8]
    rw [show (dats m hO 0 c).leavesExact 9 t = owns (c : Thread nD τ) (ms0_9 m hO t) fullShare ((dats m hO 0 c).after 9 t) from by
      unfold Dat.leavesExact; rw [liveAt0_9 m hO t]; try rfl, after0_9]
    rw [show (dats m hO 0 c).leavesExact 10 t = owns (c : Thread nD τ) (ms0_10 m hO t) fullShare ((dats m hO 0 c).after 10 t) from by
      unfold Dat.leavesExact; rw [liveAt0_10 m hO t]; try rfl, after0_10]
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HT0]; · iexact HT0
    iintro ⟨H0, H1, H2, H3, H4, H5, H6, H7, H8, H9, H10, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves0_11 m hO c t h0 d11); iexact H11
    isplitl [H12]; · iapply (leaves0_12 m hO c t h0 d12); iexact H12
    iapply (leaves0_13 m hO c t h0 d13); iexact H13

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_around_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.Kernel.Gen

end
-- ==== Proof.Run.Points.lean ====
/- The schedule of the kernel's pallas_call on its grid of 32 points: at which points each window is fetched
   and at which it is written back, and the body as the pipeline calls it at a point. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg4)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 5 (%1)) is fetched at the first point only, at any contents of the tables (its index map reads none). -/
theorem fetch0_4 (a : (pcfg0 (F := F)).Adm) : ∀ t : Fin (cfg0 a).N, ((cfg0 a).win 4).fetch t = true ↔ t.val % 32 = 0 :=
  (fun t => Pipeline.Window.fetchOf_const cc0_transform_4 (fun _ _ => rfl) (n := 32) (by decide) t : ∀ t : Fin grid0.N, Pipeline.Window.fetchOf grid0 false cc0_transform_4 t = true ↔ t.val % 32 = 0)
/-- Window 5 (operand 6 (%2)) is fetched at the first point only, at any contents of the tables (its index map reads none). -/
theorem fetch0_5 (a : (pcfg0 (F := F)).Adm) : ∀ t : Fin (cfg0 a).N, ((cfg0 a).win 5).fetch t = true ↔ t.val % 32 = 0 :=
  (fun t => Pipeline.Window.fetchOf_const cc0_transform_5 (fun _ _ => rfl) (n := 32) (by decide) t : ∀ t : Fin grid0.N, Pipeline.Window.fetchOf grid0 false cc0_transform_5 t = true ↔ t.val % 32 = 0)
/-- Window 6 (operand 7 (%arg4)) is fetched at the first point only, at any contents of the tables (its index map reads none). -/
theorem fetch0_6 (a : (pcfg0 (F := F)).Adm) : ∀ t : Fin (cfg0 a).N, ((cfg0 a).win 6).fetch t = true ↔ t.val % 32 = 0 :=
  (fun t => Pipeline.Window.fetchOf_const cc0_transform_6 (fun _ _ => rfl) (n := 32) (by decide) t : ∀ t : Fin grid0.N, Pipeline.Window.fetchOf grid0 false cc0_transform_6 t = true ↔ t.val % 32 = 0)
/-- Window 7 (operand 8 (%3)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 0 (by decide) (by decide) (Pipeline.Window.sep_of_coord cc0_transform_7 0 0 (fun _ => rfl) (by decide)) (P := 1) (by decide) t).mpr (Nat.mod_one _) : ∀ t : Fin grid0.N, Pipeline.Window.fetchOf grid0 false cc0_transform_7 t = true)
/-- Window 8 (operand 9 (%4)) is fetched at every point, at any contents of the tables (its index map reads none). -/
theorem fetch0_8 (a : (pcfg0 (F := F)).Adm) : ∀ t : Fin (cfg0 a).N, ((cfg0 a).win 8).fetch t = true :=
  (fun t => (Pipeline.Window.fetchOf_reads cc0_transform_8 reads0_8 hreads0_8 0 (by decide) (by decide) (Pipeline.Window.sep_of_coord cc0_transform_8 0 0 (fun _ => rfl) (by decide)) (P := 1) (by decide) t).mpr (Nat.mod_one _) : ∀ t : Fin grid0.N, Pipeline.Window.fetchOf grid0 false cc0_transform_8 t = true)
/-- Window 9 (operand 10 (%5)) is fetched at every point, at any contents of the tables (its index map reads none). -/
theorem fetch0_9 (a : (pcfg0 (F := F)).Adm) : ∀ t : Fin (cfg0 a).N, ((cfg0 a).win 9).fetch t = true :=
  (fun t => (Pipeline.Window.fetchOf_reads cc0_transform_9 reads0_9 hreads0_9 0 (by decide) (by decide) (Pipeline.Window.sep_of_coord cc0_transform_9 0 0 (fun _ => rfl) (by decide)) (P := 1) (by decide) t).mpr (Nat.mod_one _) : ∀ t : Fin grid0.N, Pipeline.Window.fetchOf grid0 false cc0_transform_9 t = true)
/-- Window 10 (result 0 (%6#0)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 (result 1 (%6#1)) is written back at the last point only, at any contents of the tables (its index map reads none). -/
theorem flush0_11 (a : (pcfg0 (F := F)).Adm) : ∀ t : Fin (cfg0 a).N, ((cfg0 a).win 11).flush t = true ↔ t.val % 32 = 31 :=
  (fun t => Pipeline.Window.flushOf_const cc0_transform_11 (fun _ _ => rfl) (n := 32) (by decide) rfl t : ∀ t : Fin grid0.N, Pipeline.Window.flushOf grid0 true cc0_transform_11 t = true ↔ t.val % 32 = 31)
/-- Window 12 (result 2 (%6#2)) is written back at the last point only, at any contents of the tables (its index map reads none). -/
theorem flush0_12 (a : (pcfg0 (F := F)).Adm) : ∀ t : Fin (cfg0 a).N, ((cfg0 a).win 12).flush t = true ↔ t.val % 32 = 31 :=
  (fun t => Pipeline.Window.flushOf_const cc0_transform_12 (fun _ _ => rfl) (n := 32) (by decide) rfl t : ∀ t : Fin grid0.N, Pipeline.Window.flushOf grid0 true cc0_transform_12 t = true ↔ t.val % 32 = 31)
/-- Window 13 (result 3 (%6#3)) is written back at the last point only, at any contents of the tables (its index map reads none). -/
theorem flush0_13 (a : (pcfg0 (F := F)).Adm) : ∀ t : Fin (cfg0 a).N, ((cfg0 a).win 13).flush t = true ↔ t.val % 32 = 31 :=
  (fun t => Pipeline.Window.flushOf_const cc0_transform_13 (fun _ _ => rfl) (n := 32) (by decide) rfl t : ∀ t : Fin grid0.N, Pipeline.Window.flushOf grid0 true cc0_transform_13 t = true ↔ t.val % 32 = 31)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_decode_attn (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13))

end Cert.KernelIdeal.Gen

end
-- ==== Proof.Run.Runs.lean ====
/- The frame kit of the idealized kernel: @main around its region, the arrays as the region finds them, the
   prefetched table, the windows' blocks, and what `FramePost` says of the argument arrays. -/
module

public import proofs.«01_k».proof.Proof.Gen.KernelIdeal.Launch
public import proofs.«01_k».proof.Proof.Gen.KernelIdeal.Skeleton
public import proofs.«01_k».proof.Proof.Run.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S32 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      ((h c).1 6).trans (((dats 0 c).arrAt_in 6 rfl _).trans ((hA c 6).trans (V_main_arg4 m c))),
      (((h c).2 main_arg5 (by decide : main_arg5 ∈ Pipeline.restRefs sig spec0)).trans (W_main_arg5 m hO dats c)),
      (((h c).2 main_arg6 (by decide : main_arg6 ∈ Pipeline.restRefs sig spec0)).trans (W_main_arg6 m hO dats c)),
      (((h c).2 main_arg7 (by decide : main_arg7 ∈ Pipeline.restRefs sig spec0)).trans (W_main_arg7 m hO dats c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-- Window 9 is never idle (an input). -/
theorem liveAt0_9 (hO : Ok m) : ∀ t : Fin (cfgM m hO).N, (cfgM m hO).idle 9 (grid0.coords t) = false :=
  (fun _ => rfl : ∀ t : Fin grid0.N, idle0 9 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x32x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2x256 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S32x2x256 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S32x2x256 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S32x2x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x2x2048x256 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x2x2048x256 .i8 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x2x2048 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x32x256 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S2x32x256 .i8 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S2x32x256 .i8 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S32x2 .f32 := spec0_13.stage ((cfgM m hO).slots t 13)
abbrev hs0_13 (hO : Ok m) (t : Fin (cfgM m hO).N) : (ms0_13 m hO t).IsWhole := hstage0_13 (((cfgM m hO).slots t 13).cast nbuf0_13)

end Cert.KernelIdeal.Gen

end
-- ==== Proof.Run.Outs.lean ====
/- What the body leaves in its four output blocks, as functions of the blocks it reads: each a list of stored
   pieces (last first), and that the pieces cover the block. -/
module

public import proofs.«01_k».proof.Proof.Run.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word of the prefetched table (the cache length of the batch row) that the body reads at grid point `i`. -/
def wordAt (c : Dev nD) (i : grid0.Coords) (xt0 : TbBuf0 (F := F) c tbM0_0) : Elt F .i32 :=
  (tbM0_0.access (Rect.unit (s := S32) (k0_off1 i) S1.size (k0_off1_inb i))).read (Elt F) xt0 (Shape.Idx.first (numel1_S1.symm ▸ Nat.one_pos))

/-- The attention rows of head 0 (query rows 0 to 15), from the blocks the body loads. -/
def head0 (v1 : Elt F .i32) (x0 : Vec F S1x32x256 .bf16) (x1 : Vec F S1x2x256 .bf16) (x2 : Vec F S1x2x256 .bf16) (x3 : Vec F S1x2x256 .f32) (x7 : Vec F S1x2x2048x256 .i8) (x8 : Vec F S1x2x2048x256 .i8) (x9 : Vec F S1x2x2048 .f32) : FVec F S1x16x256 .bf16 :=
  k0_pay17 (k0_pay13 v1 (View.ld x0 (Rect.unit (s := S1x32x256) ![0, 0, 0] S1x16x256.size inb_S1x32x256_S1x16x256_0_0_0)) (View.ld x7 (Rect.unit (s := S1x2x2048x256) ![0, 0, 0, 0] S1x1x2048x256.size inb_S1x2x2048x256_S1x1x2048x256_0_0_0_0)) (View.ld x3 (Rect.unit (s := S1x2x256) ![0, 0, 0] S1x1x256.size inb_S1x2x256_S1x1x256_0_0_0))) (k0_pay14 (View.ld x0 (Rect.unit (s := S1x32x256) ![0, 0, 0] S1x16x256.size inb_S1x32x256_S1x16x256_0_0_0)) (View.ld x1 (Rect.unit (s := S1x2x256) ![0, 0, 0] S1x1x256.size inb_S1x2x256_S1x1x256_0_0_0))) (k0_pay15 v1 (View.ld x0 (Rect.unit (s := S1x32x256) ![0, 0, 0] S1x16x256.size inb_S1x32x256_S1x16x256_0_0_0)) (View.ld x7 (Rect.unit (s := S1x2x2048x256) ![0, 0, 0, 0] S1x1x2048x256.size inb_S1x2x2048x256_S1x1x2048x256_0_0_0_0)) (View.ld x3 (Rect.unit (s := S1x2x256) ![0, 0, 0] S1x1x256.size inb_S1x2x256_S1x1x256_0_0_0)) (View.ld x1 (Rect.unit (s := S1x2x256) ![0, 0, 0] S1x1x256.size inb_S1x2x256_S1x1x256_0_0_0))) (k0_pay16 v1 (View.ld x0 (Rect.unit (s := S1x32x256) ![0, 0, 0] S1x16x256.size inb_S1x32x256_S1x16x256_0_0_0)) (View.ld x7 (Rect.unit (s := S1x2x2048x256) ![0, 0, 0, 0] S1x1x2048x256.size inb_S1x2x2048x256_S1x1x2048x256_0_0_0_0)) (View.ld x3 (Rect.unit (s := S1x2x256) ![0, 0, 0] S1x1x256.size inb_S1x2x256_S1x1x256_0_0_0)) (View.ld x1 (Rect.unit (s := S1x2x256) ![0, 0, 0] S1x1x256.size inb_S1x2x256_S1x1x256_0_0_0))) (View.ld x9 (Rect.unit (s := S1x2x2048) ![0, 0, 0] S1x1x2048.size inb_S1x2x2048_S1x1x2048_0_0_0)) (View.ld x8 (Rect.unit (s := S1x2x2048x256) ![0, 0, 0, 0] S1x1x2048x256.size inb_S1x2x2048x256_S1x1x2048x256_0_0_0_0)) (View.ld x2 (Rect.unit (s := S1x2x256) ![0, 0, 0] S1x1x256.size inb_S1x2x256_S1x1x256_0_0_0))

/-- The attention rows of head 1 (query rows 16 to 31), from the blocks the body loads. -/
def head1 (v1 : Elt F .i32) (x0 : Vec F S1x32x256 .bf16) (x1 : Vec F S1x2x256 .bf16) (x2 : Vec F S1x2x256 .bf16) (x3 : Vec F S1x2x256 .f32) (x7 : Vec F S1x2x2048x256 .i8) (x8 : Vec F S1x2x2048x256 .i8) (x9 : Vec F S1x2x2048 .f32) : FVec F S1x16x256 .bf16 :=
  k0_pay1 (k0_pay24 v1 (k0_pay18 (View.ld x0 (Rect.unit (s := S1x32x256) ![0, 16, 0] S1x16x256.size inb_S1x32x256_S1x16x256_0_16_0))) (k0_pay19 (View.ld x7 (Rect.unit (s := S1x2x2048x256) ![0, 1, 0, 0] S1x1x2048x256.size inb_S1x2x2048x256_S1x1x2048x256_0_1_0_0))) (View.ld x3 (Rect.unit (s := S1x2x256) ![0, 1, 0] S1x1x256.size inb_S1x2x256_S1x1x256_0_1_0)) (View.ld x1 (Rect.unit (s := S1x2x256) ![0, 1, 0] S1x1x256.size inb_S1x2x256_S1x1x256_0_1_0))) (k0_pay25 v1 (k0_pay18 (View.ld x0 (Rect.unit (s := S1x32x256) ![0, 16, 0] S1x16x256.size inb_S1x32x256_S1x16x256_0_16_0))) (k0_pay19 (View.ld x7 (Rect.unit (s := S1x2x2048x256) ![0, 1, 0, 0] S1x1x2048x256.size inb_S1x2x2048x256_S1x1x2048x256_0_1_0_0))) (View.ld x3 (Rect.unit (s := S1x2x256) ![0, 1, 0] S1x1x256.size inb_S1x2x256_S1x1x256_0_1_0)) (View.ld x1 (Rect.unit (s := S1x2x256) ![0, 1, 0] S1x1x256.size inb_S1x2x256_S1x1x256_0_1_0))) (k0_pay26 v1 (k0_pay18 (View.ld x0 (Rect.unit (s := S1x32x256) ![0, 16, 0] S1x16x256.size inb_S1x32x256_S1x16x256_0_16_0))) (k0_pay19 (View.ld x7 (Rect.unit (s := S1x2x2048x256) ![0, 1, 0, 0] S1x1x2048x256.size inb_S1x2x2048x256_S1x1x2048x256_0_1_0_0))) (View.ld x3 (Rect.unit (s := S1x2x256) ![0, 1, 0] S1x1x256.size inb_S1x2x256_S1x1x256_0_1_0)) (View.ld x1 (Rect.unit (s := S1x2x256) ![0, 1, 0] S1x1x256.size inb_S1x2x256_S1x1x256_0_1_0)) (View.ld x9 (Rect.unit (s := S1x2x2048) ![0, 1, 0] S1x1x2048.size inb_S1x2x2048_S1x1x2048_0_1_0))) (View.ld x8 (Rect.unit (s := S1x2x2048x256) ![0, 1, 0, 0] S1x1x2048x256.size inb_S1x2x2048x256_S1x1x2048x256_0_1_0_0)) (View.ld x2 (Rect.unit (s := S1x2x256) ![0, 1, 0] S1x1x256.size inb_S1x2x256_S1x1x256_0_1_0))

/-- What the body leaves in the attention block: the two heads' rows. -/
def out10 (v1 : Elt F .i32) (x0 : Vec F S1x32x256 .bf16) (x1 : Vec F S1x2x256 .bf16) (x2 : Vec F S1x2x256 .bf16) (x3 : Vec F S1x2x256 .f32) (x7 : Vec F S1x2x2048x256 .i8) (x8 : Vec F S1x2x2048x256 .i8) (x9 : Vec F S1x2x2048 .f32) : Vec F S1x32x256 .bf16 :=
  View.canon [⟨(Rect.unit (s := S1x32x256) ![0, 16, 0] S1x16x256.size inb_S1x32x256_S1x16x256_0_16_0), head1 v1 x0 x1 x2 x3 x7 x8 x9⟩, ⟨(Rect.unit (s := S1x32x256) ![0, 0, 0] S1x16x256.size inb_S1x32x256_S1x16x256_0_0_0), head0 v1 x0 x1 x2 x3 x7 x8 x9⟩]

/-- What the body leaves in the block of key codes at the first point. -/
def out11 (x4 : Vec F S32x2x256 .bf16) (x6 : Vec F S32x2x256 .f32) : Vec F S2x32x256 .i8 :=
  View.canon [⟨(Rect.unit (s := S2x32x256) ![1, 0, 0] S1x32x256.size inb_S2x32x256_S1x32x256_1_0_0), k0_pay7 (View.ld x4 (Rect.unit (s := S32x2x256) ![0, 1, 0] S32x1x256.size inb_S32x2x256_S32x1x256_0_1_0)) (View.ld x6 (Rect.unit (s := S32x2x256) ![0, 1, 0] S32x1x256.size inb_S32x2x256_S32x1x256_0_1_0))⟩, ⟨(Rect.unit (s := S2x32x256) ![0, 0, 0] S1x32x256.size inb_S2x32x256_S1x32x256_0_0_0), k0_pay2 (View.ld x4 (Rect.unit (s := S32x2x256) ![0, 0, 0] S32x1x256.size inb_S32x2x256_S32x1x256_0_0_0)) (View.ld x6 (Rect.unit (s := S32x2x256) ![0, 0, 0] S32x1x256.size inb_S32x2x256_S32x1x256_0_0_0))⟩]

/-- What the body leaves in the block of value codes at the first point. -/
def out12 (x5 : Vec F S32x2x256 .bf16) : Vec F S2x32x256 .i8 :=
  View.canon [⟨(Rect.unit (s := S2x32x256) ![1, 0, 0] S1x32x256.size inb_S2x32x256_S1x32x256_1_0_0), k0_pay11 (Scalar.ofBits .f32 0x42FE0000#32) (k0_pay10 (View.ld x5 (Rect.unit (s := S32x2x256) ![0, 1, 0] S32x1x256.size inb_S32x2x256_S32x1x256_0_1_0)))⟩, ⟨(Rect.unit (s := S2x32x256) ![0, 0, 0] S1x32x256.size inb_S2x32x256_S1x32x256_0_0_0), k0_pay6 (k0_pay5 (View.ld x5 (Rect.unit (s := S32x2x256) ![0, 0, 0] S32x1x256.size inb_S32x2x256_S32x1x256_0_0_0)))⟩]

/-- What the body leaves in the block of value scales at the first point. -/
def out13 (x5 : Vec F S32x2x256 .bf16) : Vec F S32x2 .f32 :=
  View.canon [⟨(Rect.unit (s := S32x2) ![0, 1] S32x1.size inb_S32x2_S32x1_0_1), k0_pay9 (View.ld x5 (Rect.unit (s := S32x2x256) ![0, 1, 0] S32x1x256.size inb_S32x2x256_S32x1x256_0_1_0))⟩, ⟨(Rect.unit (s := S32x2) ![0, 0] S32x1.size inb_S32x2_S32x1_0_0), k0_pay4 (View.ld x5 (Rect.unit (s := S32x2x256) ![0, 0, 0] S32x1x256.size inb_S32x2x256_S32x1x256_0_0_0))⟩]

/-- The two stores into the attention block cover it. -/
theorem cover10 (a b : FVec F S1x16x256 .bf16) (y : S1x32x256.Idx) :
    ∃ p ∈ ([⟨(Rect.unit (s := S1x32x256) ![0, 16, 0] S1x16x256.size inb_S1x32x256_S1x16x256_0_16_0), a⟩, ⟨(Rect.unit (s := S1x32x256) ![0, 0, 0] S1x16x256.size inb_S1x32x256_S1x16x256_0_0_0), b⟩] : List (View.Piece (Elt F) S1x32x256 .bf16)), y ∈ p.1.set :=
  View.cover_of_tiledL (s := S1x32x256) _ S1x16x256.size (by sl_kernel_rfl) y
/-- The two stores into a block of codes cover it. -/
theorem cover11 (a b : IVec S1x32x256 8) (y : S2x32x256.Idx) :
    ∃ p ∈ ([⟨(Rect.unit (s := S2x32x256) ![1, 0, 0] S1x32x256.size inb_S2x32x256_S1x32x256_1_0_0), a⟩, ⟨(Rect.unit (s := S2x32x256) ![0, 0, 0] S1x32x256.size inb_S2x32x256_S1x32x256_0_0_0), b⟩] : List (View.Piece (Elt F) S2x32x256 .i8)), y ∈ p.1.set :=
  View.cover_of_tiledL (s := S2x32x256) _ S1x32x256.size (by sl_kernel_rfl) y
/-- The two stores into the block of scales cover it. -/
theorem cover13 (a b : FVec F S32x1 .f32) (y : S32x2.Idx) :
    ∃ p ∈ ([⟨(Rect.unit (s := S32x2) ![0, 1] S32x1.size inb_S32x2_S32x1_0_1), a⟩, ⟨(Rect.unit (s := S32x2) ![0, 0] S32x1.size inb_S32x2_S32x1_0_0), b⟩] : List (View.Piece (Elt F) S32x2 .f32)), y ∈ p.1.set :=
  View.cover_of_tiledL (s := S32x2) _ S32x1.size (by sl_kernel_rfl) y

end Cert.KernelIdeal.Gen

end
-- ==== Proof.Run.RunA.lean ====
/- The run of the kernel body at the first grid point. -/
module

public import proofs.«01_k».proof.Proof.Run.Outs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple at the first grid point (the conditional taken): on whole staging memrefs, the inputs' at their
    contents and the outputs' at anything, the body runs to the continuation holding the inputs' as they were and the
    four outputs at `out10` to `out13`. -/
theorem kernelRun0_A (c : Dev nD) (i : grid0.Coords) (arg2 : Memref sig .tc .vmem S1x32x256 .bf16) (harg2 : arg2.IsWhole) (arg3 : Memref sig .tc .vmem S1x2x256 .bf16) (harg3 : arg3.IsWhole) (arg4 : Memref sig .tc .vmem S1x2x256 .bf16) (harg4 : arg4.IsWhole) (arg5 : Memref sig .tc .vmem S1x2x256 .f32) (harg5 : arg5.IsWhole) (arg6 : Memref sig .tc .vmem S32x2x256 .bf16) (harg6 : arg6.IsWhole) (arg7 : Memref sig .tc .vmem S32x2x256 .bf16) (harg7 : arg7.IsWhole) (arg8 : Memref sig .tc .vmem S32x2x256 .f32) (harg8 : arg8.IsWhole) (arg9 : Memref sig .tc .vmem S1x2x2048x256 .i8) (harg9 : arg9.IsWhole) (arg10 : Memref sig .tc .vmem S1x2x2048x256 .i8) (harg10 : arg10.IsWhole) (arg11 : Memref sig .tc .vmem S1x2x2048 .f32) (harg11 : arg11.IsWhole) (arg12 : Memref sig .tc .vmem S1x32x256 .bf16) (harg12 : arg12.IsWhole) (arg13 : Memref sig .tc .vmem S2x32x256 .i8) (harg13 : arg13.IsWhole) (arg14 : Memref sig .tc .vmem S2x32x256 .i8) (harg14 : arg14.IsWhole) (arg15 : Memref sig .tc .vmem S32x2 .f32) (harg15 : arg15.IsWhole) (hc0 : cond0_0 i)
    (x0 : Vec F S1x32x256 .bf16) (x1 : Vec F S1x2x256 .bf16) (x2 : Vec F S1x2x256 .bf16) (x3 : Vec F S1x2x256 .f32) (x4 : Vec F S32x2x256 .bf16) (x5 : Vec F S32x2x256 .bf16) (x6 : Vec F S32x2x256 .f32) (x7 : Vec F S1x2x2048x256 .i8) (x8 : Vec F S1x2x2048x256 .i8) (x9 : Vec F S1x2x2048 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out10 (wordAt c i xt0) x0 x1 x2 x3 x7 x8 x9) ∗ owns (c : Thread nD τ) arg13 fullShare (out11 x4 x6) ∗ owns (c : Thread nD τ) arg14 fullShare (out12 x5) ∗ owns (c : Thread nD τ) arg15 fullShare (out13 x5) ∗ tbPt0 c tbM0_0 xt0) -∗ K ⟨⟩))
          ⊢ wp frame (wpE (defs₀ (F := F)) Variants.none c none) E (cc0_decode_attn i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_decode_attn_eq_skeleton]; unfold cc0_decode_attn_skel
    simp only [k0_part3_eq_skeleton, k0_part1_eq_skeleton, k0_part2_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro
      refine (View.read_writes_eq_canon _ _ _ (fun y => cover10 (F := F) _ _ y)).trans ?_
      refine Eq.trans (b := out10 (wordAt c i xt0) (View.read (Elt F) arg2.view (harg2.unread x0)) (View.read (Elt F) arg3.view (harg3.unread x1)) (View.read (Elt F) arg4.view (harg4.unread x2)) (View.read (Elt F) arg5.view (harg5.unread x3)) (View.read (Elt F) arg9.view (harg9.unread x7)) (View.read (Elt F) arg10.view (harg10.unread x8)) (View.read (Elt F) arg11.view (harg11.unread x9))) ?_ (by simp only [hf0, hf1, hf2, hf3, hf7, hf8, hf9])
      rfl
    isplitl [H11]
    · iexists _; isplitr; swap; · iexact H11
      ipureintro
      refine (View.read_writes_eq_canon _ _ _ (fun y => cover11 (F := F) _ _ y)).trans ?_
      refine Eq.trans (b := out11 (View.read (Elt F) arg6.view (harg6.unread x4)) (View.read (Elt F) arg8.view (harg8.unread x6))) ?_ (by simp only [hf4, hf6])
      rfl
    isplitl [H12]
    · iexists _; isplitr; swap; · iexact H12
      ipureintro
      refine (View.read_writes_eq_canon _ _ _ (fun y => cover11 (F := F) _ _ y)).trans ?_
      refine Eq.trans (b := out12 (View.read (Elt F) arg7.view (harg7.unread x5))) ?_ (by simp only [hf5])
      rfl
    isplitl [H13]
    · iexists _; isplitr; swap; · iexact H13
      ipureintro
      refine (View.read_writes_eq_canon _ _ _ (fun y => cover13 (F := F) _ _ y)).trans ?_
      refine Eq.trans (b := out13 (View.read (Elt F) arg7.view (harg7.unread x5))) ?_ (by simp only [hf5])
      rfl
    iexact HT0

end Cert.KernelIdeal.Gen

end
-- ==== Proof.Run.RunB.lean ====
/- The run of the kernel body at the grid points after the first. -/
module

public import proofs.«01_k».proof.Proof.Run.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple at every later grid point (the conditional not taken): the inputs' staging memrefs at their
    contents and the attention block at anything, the body runs to the continuation holding the inputs' as they were and
    the attention block at `out10`. The three blocks of new-token codes and scales are not touched. -/
theorem kernelRun0_B (c : Dev nD) (i : grid0.Coords) (arg2 : Memref sig .tc .vmem S1x32x256 .bf16) (harg2 : arg2.IsWhole) (arg3 : Memref sig .tc .vmem S1x2x256 .bf16) (harg3 : arg3.IsWhole) (arg4 : Memref sig .tc .vmem S1x2x256 .bf16) (harg4 : arg4.IsWhole) (arg5 : Memref sig .tc .vmem S1x2x256 .f32) (harg5 : arg5.IsWhole) (arg6 : Memref sig .tc .vmem S32x2x256 .bf16) (harg6 : arg6.IsWhole) (arg7 : Memref sig .tc .vmem S32x2x256 .bf16) (harg7 : arg7.IsWhole) (arg8 : Memref sig .tc .vmem S32x2x256 .f32) (harg8 : arg8.IsWhole) (arg9 : Memref sig .tc .vmem S1x2x2048x256 .i8) (harg9 : arg9.IsWhole) (arg10 : Memref sig .tc .vmem S1x2x2048x256 .i8) (harg10 : arg10.IsWhole) (arg11 : Memref sig .tc .vmem S1x2x2048 .f32) (harg11 : arg11.IsWhole) (arg12 : Memref sig .tc .vmem S1x32x256 .bf16) (harg12 : arg12.IsWhole) (arg13 : Memref sig .tc .vmem S2x32x256 .i8) (harg13 : arg13.IsWhole) (arg14 : Memref sig .tc .vmem S2x32x256 .i8) (harg14 : arg14.IsWhole) (arg15 : Memref sig .tc .vmem S32x2 .f32) (harg15 : arg15.IsWhole) (hc0 : ¬cond0_0 i)
    (x0 : Vec F S1x32x256 .bf16) (x1 : Vec F S1x2x256 .bf16) (x2 : Vec F S1x2x256 .bf16) (x3 : Vec F S1x2x256 .f32) (x4 : Vec F S32x2x256 .bf16) (x5 : Vec F S32x2x256 .bf16) (x6 : Vec F S32x2x256 .f32) (x7 : Vec F S1x2x2048x256 .i8) (x8 : Vec F S1x2x2048x256 .i8) (x9 : Vec F S1x2x2048 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out10 (wordAt c i xt0) x0 x1 x2 x3 x7 x8 x9) ∗ tbPt0 c tbM0_0 xt0) -∗ K ⟨⟩))
          ⊢ wp frame (wpE (defs₀ (F := F)) Variants.none c none) E (cc0_decode_attn i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_decode_attn_eq_skeleton]; unfold cc0_decode_attn_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro
      refine (View.read_writes_eq_canon _ _ _ (fun y => cover10 (F := F) _ _ y)).trans ?_
      refine Eq.trans (b := out10 (wordAt c i xt0) (View.read (Elt F) arg2.view (harg2.unread x0)) (View.read (Elt F) arg3.view (harg3.unread x1)) (View.read (Elt F) arg4.view (harg4.unread x2)) (View.read (Elt F) arg5.view (harg5.unread x3)) (View.read (Elt F) arg9.view (harg9.unread x7)) (View.read (Elt F) arg10.view (harg10.unread x8)) (View.read (Elt F) arg11.view (harg11.unread x9))) ?_ (by simp only [hf0, hf1, hf2, hf3, hf7, hf8, hf9])
      rfl
    iexact HT0

end Cert.KernelIdeal.Gen

end
-- ==== Proof.Run.Frame.lean ====
/- The idealized kernel's run, its outputs named: the proof data, the body obligation at every grid point, the run of
   @main and the frame claim. -/
module

public import proofs.«01_k».proof.Proof.Run.RunB
public import Idealize.ShloMosaic.Lib.Claim
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The first grid point. -/
abbrev tFirst (hO : Ok m) : Fin (cfgM m hO).N := (⟨0, by decide⟩ : Fin grid0.N)

/-- The proof data of the one pipeline on core `c`: the arrays as the region finds them; after the body at point `t`
    each input's buffer at its block, the attention block at `out10` of the blocks there, and the three blocks of
    new-token codes and scales at what the first point stored (the later points leave them alone). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => out10 (wordAt c (grid0.coords t) (tbl m 0)) (iblk m hO c 0 t) (iblk m hO c 1 t) (iblk m hO c 2 t) (iblk m hO c 3 t) (iblk m hO c 7 t) (iblk m hO c 8 t) (iblk m hO c 9 t)
    | ⟨11, _⟩ => out11 (iblk m hO c 4 (tFirst m hO)) (iblk m hO c 6 (tFirst m hO))
    | ⟨12, _⟩ => out12 (iblk m hO c 5 (tFirst m hO))
    | ⟨13, _⟩ => out13 (iblk m hO c 5 (tFirst m hO))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl

theorem after0_10 (hO : Ok m) (c : Dev nD) (t : Fin (cfgM m hO).N) : (dats m hO 0 c).after 10 t = out10 (wordAt c (grid0.coords t) (tbl m 0)) (iblk m hO c 0 t) (iblk m hO c 1 t) (iblk m hO c 2 t) (iblk m hO c 3 t) (iblk m hO c 7 t) (iblk m hO c 8 t) (iblk m hO c 9 t) := by dsimp only [dats]; try rfl
theorem after0_11 (hO : Ok m) (c : Dev nD) (t : Fin (cfgM m hO).N) : (dats m hO 0 c).after 11 t = out11 (iblk m hO c 4 (tFirst m hO)) (iblk m hO c 6 (tFirst m hO)) := by dsimp only [dats]; try rfl
theorem after0_12 (hO : Ok m) (c : Dev nD) (t : Fin (cfgM m hO).N) : (dats m hO 0 c).after 12 t = out12 (iblk m hO c 5 (tFirst m hO)) := by dsimp only [dats]; try rfl
theorem after0_13 (hO : Ok m) (c : Dev nD) (t : Fin (cfgM m hO).N) : (dats m hO 0 c).after 13 t = out13 (iblk m hO c 5 (tFirst m hO)) := by dsimp only [dats]; try rfl

/-- The attention block is written at every point. -/
theorem liveAt0_10 (hO : Ok m) : ∀ t : Fin (cfgM m hO).N, (cfgM m hO).idle 10 (grid0.coords t) = false :=
  (fun _ => rfl : ∀ t : Fin grid0.N, idle0 10 (grid0.coords t) = false)

/-- Window 11 is written at the first point -/
theorem liveAt0_11 (hO : Ok m) (t : Fin (cfgM m hO).N) (h : t.val % 32 = 0) : (cfgM m hO).idle 11 (grid0.coords t) = false := by
  have hc : k0_cond1 (grid0.coords t) = 1#1 := (hcond0_0 t).mpr h
  show (!(k0_cond1 (grid0.coords t) == 1#1)) = false
  rw [hc]; rfl
/-- and idle at the others. -/
theorem idleAt0_11 (hO : Ok m) (t : Fin (cfgM m hO).N) (h : ¬ t.val % 32 = 0) : (cfgM m hO).idle 11 (grid0.coords t) = true := by
  have hc : ¬ k0_cond1 (grid0.coords t) = 1#1 := fun e => h ((hcond0_0 t).mp e)
  show (!(k0_cond1 (grid0.coords t) == 1#1)) = true
  rw [beq_false_of_ne hc]; rfl
/-- After the first point its buffer always holds something stored. -/
theorem fresh0_11 (hO : Ok m) : ∀ n : ℕ, 0 < n → n < 32 → (cfgM m hO).fresh 11 n = false
  | 0, h, _ => absurd h (lt_irrefl 0)
  | n + 1, _, hn => by
    have hN : n < (cfgM m hO).N := lt_of_lt_of_eq (by omega) (show (cfgM m hO).N = 32 from N_0).symm
    rw [Pipeline.Cfg.fresh_succ _ _ n hN]
    have hfl : ((cfgM m hO).win 11).flush ⟨n, hN⟩ = false := by
      rw [← Bool.not_eq_true, flush0_11 (adm m hO) ⟨n, hN⟩]; simp only; omega
    rw [hfl, Bool.false_or]
    by_cases h0 : n = 0
    · rw [show (cfgM m hO).idle 11 ((cfgM m hO).grid.coords ⟨n, hN⟩) = false from liveAt0_11 m hO ⟨n, hN⟩ (by simp only; omega)]; try rfl
    · rw [fresh0_11 hO n (by omega) (by omega), Bool.and_false]
/-- So at every point after the first the body finds there what the first point stored. -/
theorem before0_11 (hO : Ok m) (c : Dev nD) (t : Fin (cfgM m hO).N) (h : ¬ t.val % 32 = 0) (d) :
    (dats m hO 0 c).before 11 t d = (dats m hO 0 c).after 11 t := by
  have hN : t.val < 32 := lt_of_lt_of_eq t.isLt (show (cfgM m hO).N = 32 from N_0)
  rw [(dats m hO 0 c).before_out_traj 11 rfl (fun _ _ => rfl) (fun t' _ _ _ => by rw [after0_11, after0_11]) t.val t rfl d,
    fresh0_11 m hO t.val (by omega) hN, if_neg Bool.false_ne_true, after0_11, after0_11]
/-- What the body owes of the window at a later point, from what it was handed. -/
theorem leaves0_11 (hO : Ok m) (c : Dev nD) (t : Fin (cfgM m hO).N) (h : ¬ t.val % 32 = 0) (d) :
    owns (c : Thread nD τ) (ms0_11 m hO t) fullShare ((dats m hO 0 c).before 11 t d) ⊢ ((dats m hO 0 c).leavesExact 11 t : sProp 𝕄) := by
  cases hf : ((cfgM m hO).win 11).flush t
  · rw [(dats m hO 0 c).leavesExact_idle 11 t (idleAt0_11 m hO t h) hf]
    iintro H; iexists d; iexact H
  · rw [before0_11 m hO c t h]
    rw [show (dats m hO 0 c).leavesExact 11 t = owns (c : Thread nD τ) (ms0_11 m hO t) fullShare ((dats m hO 0 c).after 11 t) from by
      unfold Dat.leavesExact; rw [idleAt0_11 m hO t h, hf]; try rfl]

/-- Window 12 is written at the first point -/
theorem liveAt0_12 (hO : Ok m) (t : Fin (cfgM m hO).N) (h : t.val % 32 = 0) : (cfgM m hO).idle 12 (grid0.coords t) = false := by
  have hc : k0_cond1 (grid0.coords t) = 1#1 := (hcond0_0 t).mpr h
  show (!(k0_cond1 (grid0.coords t) == 1#1)) = false
  rw [hc]; rfl
/-- and idle at the others. -/
theorem idleAt0_12 (hO : Ok m) (t : Fin (cfgM m hO).N) (h : ¬ t.val % 32 = 0) : (cfgM m hO).idle 12 (grid0.coords t) = true := by
  have hc : ¬ k0_cond1 (grid0.coords t) = 1#1 := fun e => h ((hcond0_0 t).mp e)
  show (!(k0_cond1 (grid0.coords t) == 1#1)) = true
  rw [beq_false_of_ne hc]; rfl
/-- After the first point its buffer always holds something stored. -/
theorem fresh0_12 (hO : Ok m) : ∀ n : ℕ, 0 < n → n < 32 → (cfgM m hO).fresh 12 n = false
  | 0, h, _ => absurd h (lt_irrefl 0)
  | n + 1, _, hn => by
    have hN : n < (cfgM m hO).N := lt_of_lt_of_eq (by omega) (show (cfgM m hO).N = 32 from N_0).symm
    rw [Pipeline.Cfg.fresh_succ _ _ n hN]
    have hfl : ((cfgM m hO).win 12).flush ⟨n, hN⟩ = false := by
      rw [← Bool.not_eq_true, flush0_12 (adm m hO) ⟨n, hN⟩]; simp only; omega
    rw [hfl, Bool.false_or]
    by_cases h0 : n = 0
    · rw [show (cfgM m hO).idle 12 ((cfgM m hO).grid.coords ⟨n, hN⟩) = false from liveAt0_12 m hO ⟨n, hN⟩ (by simp only; omega)]; try rfl
    · rw [fresh0_12 hO n (by omega) (by omega), Bool.and_false]
/-- So at every point after the first the body finds there what the first point stored. -/
theorem before0_12 (hO : Ok m) (c : Dev nD) (t : Fin (cfgM m hO).N) (h : ¬ t.val % 32 = 0) (d) :
    (dats m hO 0 c).before 12 t d = (dats m hO 0 c).after 12 t := by
  have hN : t.val < 32 := lt_of_lt_of_eq t.isLt (show (cfgM m hO).N = 32 from N_0)
  rw [(dats m hO 0 c).before_out_traj 12 rfl (fun _ _ => rfl) (fun t' _ _ _ => by rw [after0_12, after0_12]) t.val t rfl d,
    fresh0_12 m hO t.val (by omega) hN, if_neg Bool.false_ne_true, after0_12, after0_12]
/-- What the body owes of the window at a later point, from what it was handed. -/
theorem leaves0_12 (hO : Ok m) (c : Dev nD) (t : Fin (cfgM m hO).N) (h : ¬ t.val % 32 = 0) (d) :
    owns (c : Thread nD τ) (ms0_12 m hO t) fullShare ((dats m hO 0 c).before 12 t d) ⊢ ((dats m hO 0 c).leavesExact 12 t : sProp 𝕄) := by
  cases hf : ((cfgM m hO).win 12).flush t
  · rw [(dats m hO 0 c).leavesExact_idle 12 t (idleAt0_12 m hO t h) hf]
    iintro H; iexists d; iexact H
  · rw [before0_12 m hO c t h]
    rw [show (dats m hO 0 c).leavesExact 12 t = owns (c : Thread nD τ) (ms0_12 m hO t) fullShare ((dats m hO 0 c).after 12 t) from by
      unfold Dat.leavesExact; rw [idleAt0_12 m hO t h, hf]; try rfl]

/-- Window 13 is written at the first point -/
theorem liveAt0_13 (hO : Ok m) (t : Fin (cfgM m hO).N) (h : t.val % 32 = 0) : (cfgM m hO).idle 13 (grid0.coords t) = false := by
  have hc : k0_cond1 (grid0.coords t) = 1#1 := (hcond0_0 t).mpr h
  show (!(k0_cond1 (grid0.coords t) == 1#1)) = false
  rw [hc]; rfl
/-- and idle at the others. -/
theorem idleAt0_13 (hO : Ok m) (t : Fin (cfgM m hO).N) (h : ¬ t.val % 32 = 0) : (cfgM m hO).idle 13 (grid0.coords t) = true := by
  have hc : ¬ k0_cond1 (grid0.coords t) = 1#1 := fun e => h ((hcond0_0 t).mp e)
  show (!(k0_cond1 (grid0.coords t) == 1#1)) = true
  rw [beq_false_of_ne hc]; rfl
/-- After the first point its buffer always holds something stored. -/
theorem fresh0_13 (hO : Ok m) : ∀ n : ℕ, 0 < n → n < 32 → (cfgM m hO).fresh 13 n = false
  | 0, h, _ => absurd h (lt_irrefl 0)
  | n + 1, _, hn => by
    have hN : n < (cfgM m hO).N := lt_of_lt_of_eq (by omega) (show (cfgM m hO).N = 32 from N_0).symm
    rw [Pipeline.Cfg.fresh_succ _ _ n hN]
    have hfl : ((cfgM m hO).win 13).flush ⟨n, hN⟩ = false := by
      rw [← Bool.not_eq_true, flush0_13 (adm m hO) ⟨n, hN⟩]; simp only; omega
    rw [hfl, Bool.false_or]
    by_cases h0 : n = 0
    · rw [show (cfgM m hO).idle 13 ((cfgM m hO).grid.coords ⟨n, hN⟩) = false from liveAt0_13 m hO ⟨n, hN⟩ (by simp only; omega)]; try rfl
    · rw [fresh0_13 hO n (by omega) (by omega), Bool.and_false]
/-- So at every point after the first the body finds there what the first point stored. -/
theorem before0_13 (hO : Ok m) (c : Dev nD) (t : Fin (cfgM m hO).N) (h : ¬ t.val % 32 = 0) (d) :
    (dats m hO 0 c).before 13 t d = (dats m hO 0 c).after 13 t := by
  have hN : t.val < 32 := lt_of_lt_of_eq t.isLt (show (cfgM m hO).N = 32 from N_0)
  rw [(dats m hO 0 c).before_out_traj 13 rfl (fun _ _ => rfl) (fun t' _ _ _ => by rw [after0_13, after0_13]) t.val t rfl d,
    fresh0_13 m hO t.val (by omega) hN, if_neg Bool.false_ne_true, after0_13, after0_13]
/-- What the body owes of the window at a later point, from what it was handed. -/
theorem leaves0_13 (hO : Ok m) (c : Dev nD) (t : Fin (cfgM m hO).N) (h : ¬ t.val % 32 = 0) (d) :
    owns (c : Thread nD τ) (ms0_13 m hO t) fullShare ((dats m hO 0 c).before 13 t d) ⊢ ((dats m hO 0 c).leavesExact 13 t : sProp 𝕄) := by
  cases hf : ((cfgM m hO).win 13).flush t
  · rw [(dats m hO 0 c).leavesExact_idle 13 t (idleAt0_13 m hO t h) hf]
    iintro H; iexists d; iexact H
  · rw [before0_13 m hO c t h]
    rw [show (dats m hO 0 c).leavesExact 13 t = owns (c : Thread nD τ) (ms0_13 m hO t) fullShare ((dats m hO 0 c).after 13 t) from by
      unfold Dat.leavesExact; rw [idleAt0_13 m hO t h, hf]; try rfl]

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t)

set_option maxHeartbeats 2400000 in
/-- The body at any point: the inputs' memrefs hold their blocks; the point is the first one or a later one, and the
    run of that case applies. At a later point the three blocks the body does not touch go back as they came. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq]
  have hN : t.val < 32 := lt_of_lt_of_eq t.isLt (show (cfgM m hO).N = 32 from N_0)
  by_cases h0 : t.val % 32 = 0
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    rw [show (dats m hO 0 c).leavesExact 6 t = owns (c : Thread nD τ) (ms0_6 m hO t) fullShare ((dats m hO 0 c).after 6 t) from by
      unfold Dat.leavesExact; rw [liveAt0_6 m hO t]; try rfl, after0_6]
    rw [show (dats m hO 0 c).leavesExact 7 t = owns (c : Thread nD τ) (ms0_7 m hO t) fullShare ((dats m hO 0 c).after 7 t) from by
      unfold Dat.leavesExact; rw [liveAt0_7 m hO t]; try rfl, after0_7]
    rw [show (dats m hO 0 c).leavesExact 8 t = owns (c : Thread nD τ) (ms0_8 m hO t) fullShare ((dats m hO 0 c).after 8 t) from by
      unfold Dat.leavesExact; rw [liveAt0_8 m hO t]; try rfl, after0_8]
    rw [show (dats m hO 0 c).leavesExact 9 t = owns (c : Thread nD τ) (ms0_9 m hO t) fullShare ((dats m hO 0 c).after 9 t) from by
      unfold Dat.leavesExact; rw [liveAt0_9 m hO t]; try rfl, after0_9]
    rw [show (dats m hO 0 c).leavesExact 10 t = owns (c : Thread nD τ) (ms0_10 m hO t) fullShare ((dats m hO 0 c).after 10 t) from by
      unfold Dat.leavesExact; rw [liveAt0_10 m hO t]; try rfl, after0_10]
    rw [show (dats m hO 0 c).leavesExact 11 t = owns (c : Thread nD τ) (ms0_11 m hO t) fullShare ((dats m hO 0 c).after 11 t) from by
      unfold Dat.leavesExact; rw [liveAt0_11 m hO t h0]; try rfl, after0_11]
    rw [show (dats m hO 0 c).leavesExact 12 t = owns (c : Thread nD τ) (ms0_12 m hO t) fullShare ((dats m hO 0 c).after 12 t) from by
      unfold Dat.leavesExact; rw [liveAt0_12 m hO t h0]; try rfl, after0_12]
    rw [show (dats m hO 0 c).leavesExact 13 t = owns (c : Thread nD τ) (ms0_13 m hO t) fullShare ((dats m hO 0 c).after 13 t) from by
      unfold Dat.leavesExact; rw [liveAt0_13 m hO t h0]; try rfl, after0_13]
    have ht : tFirst m hO = t := (Fin.ext (show t.val = 0 by have hN : t.val < 32 := lt_of_lt_of_eq t.isLt (show (cfgM m hO).N = 32 from N_0); omega)).symm
    rw [ht]
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HT0]; · iexact HT0
    iintro ⟨H0, H1, H2, H3, H4, H5, H6, H7, H8, H9, H10, H11, H12, H13, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [show (dats m hO 0 c).leavesExact 0 t = owns (c : Thread nD τ) (ms0_0 m hO t) fullShare ((dats m hO 0 c).after 0 t) from by
      unfold Dat.leavesExact; rw [liveAt0_0 m hO t]; try rfl, after0_0]
    rw [show (dats m hO 0 c).leavesExact 1 t = owns (c : Thread nD τ) (ms0_1 m hO t) fullShare ((dats m hO 0 c).after 1 t) from by
      unfold Dat.leavesExact; rw [liveAt0_1 m hO t]; try rfl, after0_1]
    rw [show (dats m hO 0 c).leavesExact 2 t = owns (c : Thread nD τ) (ms0_2 m hO t) fullShare ((dats m hO 0 c).after 2 t) from by
      unfold Dat.leavesExact; rw [liveAt0_2 m hO t]; try rfl, after0_2]
    rw [show (dats m hO 0 c).leavesExact 3 t = owns (c : Thread nD τ) (ms0_3 m hO t) fullShare ((dats m hO 0 c).after 3 t) from by
      unfold Dat.leavesExact; rw [liveAt0_3 m hO t]; try rfl, after0_3]
    rw [show (dats m hO 0 c).leavesExact 4 t = owns (c : Thread nD τ) (ms0_4 m hO t) fullShare ((dats m hO 0 c).after 4 t) from by
      unfold Dat.leavesExact; rw [liveAt0_4 m hO t]; try rfl, after0_4]
    rw [show (dats m hO 0 c).leavesExact 5 t = owns (c : Thread nD τ) (ms0_5 m hO t) fullShare ((dats m hO 0 c).after 5 t) from by
      unfold Dat.leavesExact; rw [liveAt0_5 m hO t]; try rfl, after0_5]
    rw [show (dats m hO 0 c).leavesExact 6 t = owns (c : Thread nD τ) (ms0_6 m hO t) fullShare ((dats m hO 0 c).after 6 t) from by
      unfold Dat.leavesExact; rw [liveAt0_6 m hO t]; try rfl, after0_6]
    rw [show (dats m hO 0 c).leavesExact 7 t = owns (c : Thread nD τ) (ms0_7 m hO t) fullShare ((dats m hO 0 c).after 7 t) from by
      unfold Dat.leavesExact; rw [liveAt0_7 m hO t]; try rfl, after0_7]
    rw [show (dats m hO 0 c).leavesExact 8 t = owns (c : Thread nD τ) (ms0_8 m hO t) fullShare ((dats m hO 0 c).after 8 t) from by
      unfold Dat.leavesExact; rw [liveAt0_8 m hO t]; try rfl, after0_8]
    rw [show (dats m hO 0 c).leavesExact 9 t = owns (c : Thread nD τ) (ms0_9 m hO t) fullShare ((dats m hO 0 c).after 9 t) from by
      unfold Dat.leavesExact; rw [liveAt0_9 m hO t]; try rfl, after0_9]
    rw [show (dats m hO 0 c).leavesExact 10 t = owns (c : Thread nD τ) (ms0_10 m hO t) fullShare ((dats m hO 0 c).after 10 t) from by
      unfold Dat.leavesExact; rw [liveAt0_10 m hO t]; try rfl, after0_10]
    iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HT0]; · iexact HT0
    iintro ⟨H0, H1, H2, H3, H4, H5, H6, H7, H8, H9, H10, HT0⟩
    isplitl [HΦ HT0]
    · isplitl [HΦ]
      · iexact HΦ
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves0_11 m hO c t h0 d11); iexact H11
    isplitl [H12]; · iapply (leaves0_12 m hO c t h0 d12); iexact H12
    iapply (leaves0_13 m hO c t h0 d13); iexact H13

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_around_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.KernelIdeal.Gen

end
-- ==== Proof.Ref.Terms.lean ====
/- The reference's four results as composed terms of its arguments: the codes of the new keys and values, the scales of
   the new values, and the attention rows, in the order in which the reference computes them. -/
module

public import proofs.«01_k».proof.Proof.Gen.ReferenceIdeal.Frame
public import Idealize.ShloMosaic.Lib.Pipeline.ValueKit
public import Idealize.ShloMosaic.Lib.StableHlo.RunRead

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- `v` rounded to the nearest even integer and clamped to ±127. -/
def quant (v : FVec Ideal S32x1x2x256 .f32) : FVec Ideal S32x1x2x256 .f32 :=
  minimumf (broadcastInDim S32x1x2x256 ![] bcast_S_S32x1x2x256 (constant S_ .f32 0x42FE0000#32))
    (maximumf (broadcastInDim S32x1x2x256 ![] bcast_S_S32x1x2x256 (constant S_ .f32 0xC2FE0000#32)) (Host.roundeven v))

/-- The new keys over the cache's key scales, quantised. -/
def kQuant (X1 : FVec Ideal S32x1x2x256 .bf16) (X4 : FVec Ideal S32x2x256 .f32) : FVec Ideal S32x1x2x256 .f32 :=
  quant (Host.divf (extf .f32 X1 bitsLt_bf16_f32) (broadcastInDim S32x1x2x256 ![0, 2, 3] bcast_S32x2x256_S32x1x2x256_0_2_3 X4))

/-- The largest magnitude of each new value row. -/
def vMax (X2 : FVec Ideal S32x1x2x256 .bf16) : FVec Ideal S32x1x2 .f32 :=
  Host.reduce FloatOps.maximumf (Host.absf (extf .f32 X2 bitsLt_bf16_f32)) (constant S_ .f32 0xFF800000#32) reducesTo_S32x1x2x256_S32x1x2_d3 h_S_

/-- The scales of the new values: the largest magnitude over 127, or 1 where that magnitude is 0. -/
def vScale (X2 : FVec Ideal S32x1x2x256 .bf16) : FVec Ideal S32x1x2 .f32 :=
  select (cmpf .oeq (vMax X2) (broadcastInDim S32x1x2 ![] bcast_S_S32x1x2 (constant S_ .f32 0x00000000#32)))
    (broadcastInDim S32x1x2 ![] bcast_S_S32x1x2 (constant S_ .f32 0x3F800000#32))
    (Host.divf (vMax X2) (broadcastInDim S32x1x2 ![] bcast_S_S32x1x2 (constant S_ .f32 0x42FE0000#32)))

/-- The new values over their scales, quantised. -/
def vQuant (X2 : FVec Ideal S32x1x2x256 .bf16) : FVec Ideal S32x1x2x256 .f32 :=
  quant (Host.divf (extf .f32 X2 bitsLt_bf16_f32)
    (broadcastInDim S32x1x2x256 ![0, 1, 2, 3] bcast_S32x1x2x1_S32x1x2x256_0_1_2_3
      (broadcastInDim S32x1x2x1 ![0, 1, 2] bcast_S32x1x2_S32x1x2x1_0_1_2 (vScale X2))))

/-- The query rows grouped by key head. -/
def query (X0 : FVec Ideal S32x1x32x256 .bf16) : FVec Ideal S32x1x2x16x256 .bf16 :=
  shapeCast S32x1x2x16x256 X0 shapeCasts_S32x1x32x256_S32x1x2x16x256

/-- The scores over the cache, -∞ beyond the row's length. -/
def scores (X0 : FVec Ideal S32x1x32x256 .bf16) (X3 : FVec Ideal S32x2048x2x256 .bf16) (X4 : FVec Ideal S32x2x256 .f32) (X7 : IVec S32 32) :
    FVec Ideal S32x2x16x1x2048 .f32 :=
  select
    (broadcastInDim S32x2x16x1x2048 ![0, 1, 2, 3, 4] bcast_S32x1x1x1x2048_S32x2x16x1x2048_0_1_2_3_4
      (broadcastInDim S32x1x1x1x2048 ![0, 4] bcast_S32x2048_S32x1x1x1x2048_0_4
        (cmpi .slt
          (broadcastInDim S32x2048 ![0, 1] bcast_S1x2048_S32x2048_0_1 (broadcastInDim S1x2048 ![1] bcast_S2048_S1x2048_1 (iotaInDim S2048 32 0)))
          (broadcastInDim S32x2048 ![0, 1] bcast_S32x1_S32x2048_0_1 (broadcastInDim S32x1 ![0] bcast_S32_S32x1_0 X7)))))
    (mulf
      (transpose S32x2x16x1x2048 [0, 1, 4, 3, 2]
        (Host.dotGeneral dot_S32x2048x2x256_S32x1x2x16x256_S32x2x2048x1x16_3_4_1_13_02_02 none
          (mulf X3
            (broadcastInDim S32x2048x2x256 ![0, 1, 2, 3] bcast_S32x1x2x256_S32x2048x2x256_0_1_2_3
              (broadcastInDim S32x1x2x256 ![0, 2, 3] bcast_S32x2x256_S32x1x2x256_0_2_3 (truncf .bf16 X4 bitsLt_bf16_f32))))
          (query X0))
        transposes_S32x2x2048x1x16_S32x2x16x1x2048_0_1_4_3_2)
      (broadcastInDim S32x2x16x1x2048 ![] bcast_S_S32x2x16x1x2048 (constant S_ .f32 0x3D800000#32)))
    (broadcastInDim S32x2x16x1x2048 ![] bcast_S_S32x2x16x1x2048 (constant S_ .f32 0xFF800000#32))

/-- The score of the new key, under the causal mask. -/
def newScore (X0 : FVec Ideal S32x1x32x256 .bf16) (X1 : FVec Ideal S32x1x2x256 .bf16) : FVec Ideal S32x2x16x1x1 .f32 :=
  select
    (broadcastInDim S32x2x16x1x1 ![3, 4] bcast_S1x1_S32x2x16x1x1_3_4
      (cmpi .sle (broadcastInDim S1x1 ![1] bcast_S1_S1x1_1 (iotaInDim S1 32 0)) (broadcastInDim S1x1 ![0] bcast_S1_S1x1_0 (iotaInDim S1 32 0))))
    (mulf
      (transpose S32x2x16x1x1 [0, 1, 4, 3, 2]
        (Host.dotGeneral dot_S32x1x2x256_S32x1x2x16x256_S32x2x1x1x16_3_4_1_13_02_02 none X1 (query X0))
        transposes_S32x2x1x1x16_S32x2x16x1x1_0_1_4_3_2)
      (broadcastInDim S32x2x16x1x1 ![] bcast_S_S32x2x16x1x1 (constant S_ .f32 0x3D800000#32)))
    (broadcastInDim S32x2x16x1x1 ![] bcast_S_S32x2x16x1x1 (constant S_ .f32 0xFF800000#32))

/-- A value per row, repeated along the cache. -/
def along (v : FVec Ideal S32x2x16x1x1 .f32) : FVec Ideal S32x2x16x1x2048 .f32 :=
  broadcastInDim S32x2x16x1x2048 ![0, 1, 2, 3, 4] bcast_S32x2x16x1x1_S32x2x16x1x2048_0_1_2_3_4 v

/-- A value per row, with its unit axis. -/
def keep (v : FVec Ideal S32x2x16x1 .f32) : FVec Ideal S32x2x16x1x1 .f32 :=
  broadcastInDim S32x2x16x1x1 ![0, 1, 2, 3] bcast_S32x2x16x1_S32x2x16x1x1_0_1_2_3 v

/-- The largest score of each row. -/
def top (sc : FVec Ideal S32x2x16x1x2048 .f32) (sn : FVec Ideal S32x2x16x1x1 .f32) : FVec Ideal S32x2x16x1x1 .f32 :=
  maximumf
    (keep (Host.reduce FloatOps.maximumf sc (constant S_ .f32 0xFF800000#32) reducesTo_S32x2x16x1x2048_S32x2x16x1_d4 h_S_))
    (keep (Host.reduce FloatOps.maximumf sn (constant S_ .f32 0xFF800000#32) reducesTo_S32x2x16x1x1_S32x2x16x1_d4 h_S_))

/-- The exponentials of the cache's scores -/
def expC (sc : FVec Ideal S32x2x16x1x2048 .f32) (sn : FVec Ideal S32x2x16x1x1 .f32) : FVec Ideal S32x2x16x1x2048 .f32 :=
  Host.exp (subf sc (along (top sc sn)))

/-- and of the new score. -/
def expN (sc : FVec Ideal S32x2x16x1x2048 .f32) (sn : FVec Ideal S32x2x16x1x1 .f32) : FVec Ideal S32x2x16x1x1 .f32 :=
  Host.exp (subf sn (top sc sn))

/-- The softmax's denominator. -/
def denom (sc : FVec Ideal S32x2x16x1x2048 .f32) (sn : FVec Ideal S32x2x16x1x1 .f32) : FVec Ideal S32x2x16x1x1 .f32 :=
  addf (keep (Host.reduceAdd (expC sc sn) (constant S_ .f32 0x00000000#32) reducesTo_S32x2x16x1x2048_S32x2x16x1_d4 h_S_))
    (keep (Host.reduceAdd (expN sc sn) (constant S_ .f32 0x00000000#32) reducesTo_S32x2x16x1x1_S32x2x16x1_d4 h_S_))

/-- The softmax's weights over the cache, times the cache's value scales. -/
def weights (sc : FVec Ideal S32x2x16x1x2048 .f32) (sn : FVec Ideal S32x2x16x1x1 .f32) (X6 : FVec Ideal S32x2048x2 .f32) : FVec Ideal S32x2x16x1x2048 .bf16 :=
  truncf .bf16
    (mulf (Host.divf (expC sc sn) (along (denom sc sn)))
      (broadcastInDim S32x2x16x1x2048 ![0, 1, 2, 3, 4] bcast_S32x2x1x1x2048_S32x2x16x1x2048_0_1_2_3_4
        (broadcastInDim S32x2x1x1x2048 ![0, 1, 4] bcast_S32x2x2048_S32x2x1x1x2048_0_1_4
          (transpose S32x2x2048 [0, 2, 1] X6 transposes_S32x2048x2_S32x2x2048_0_2_1)))) bitsLt_bf16_f32

/-- The weighted sum of the cached values and the new value. -/
def mix (sc : FVec Ideal S32x2x16x1x2048 .f32) (sn : FVec Ideal S32x2x16x1x1 .f32) (X2 : FVec Ideal S32x1x2x256 .bf16)
    (X5 : FVec Ideal S32x2048x2x256 .bf16) (X6 : FVec Ideal S32x2048x2 .f32) : FVec Ideal S32x1x32x256 .bf16 :=
  truncf .bf16
    (shapeCast S32x1x32x256
      (addf
        (transpose S32x1x2x16x256 [0, 4, 1, 3, 2]
          (Host.dotGeneral dot_S32x2048x2x256_S32x2x16x1x2048_S32x2x256x16x1_1_4_3_23_02_01 none X5 (weights sc sn X6))
          transposes_S32x2x256x16x1_S32x1x2x16x256_0_4_1_3_2)
        (transpose S32x1x2x16x256 [0, 4, 1, 3, 2]
          (Host.dotGeneral dot_S32x1x2x256_S32x2x16x1x1_S32x2x256x16x1_1_4_3_23_02_01 none X2
            (truncf .bf16 (Host.divf (expN sc sn) (denom sc sn)) bitsLt_bf16_f32))
          transposes_S32x2x256x16x1_S32x1x2x16x256_0_4_1_3_2))
      shapeCasts_S32x1x2x16x256_S32x1x32x256) bitsLt_bf16_f32

/-- The attention rows. -/
def attention (X0 : FVec Ideal S32x1x32x256 .bf16) (X1 X2 : FVec Ideal S32x1x2x256 .bf16) (X3 : FVec Ideal S32x2048x2x256 .bf16)
    (X4 : FVec Ideal S32x2x256 .f32) (X5 : FVec Ideal S32x2048x2x256 .bf16) (X6 : FVec Ideal S32x2048x2 .f32) (X7 : IVec S32 32) : FVec Ideal S32x1x32x256 .bf16 :=
  mix (scores X0 X3 X4 X7) (newScore X0 X1) X2 X5 X6

end Cert.ReferenceIdeal.Value

end
-- ==== Proof.Ref.Run.lean ====
/- The reference's run: its four results are the composed terms of its arguments. -/
module

public import proofs.«01_k».proof.Proof.Ref.Terms

@[expose] public section

set_option maxRecDepth 16384

noncomputable section

namespace Cert.ReferenceIdeal.Value

open Idealize.ShloMosaic Idealize.ShloMosaic.TcCoe Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-! ## What the lines after the region leave, over any contents before them -/

set_option maxHeartbeats 1600000 in
theorem tail_v76 (V : Valuation τ sig (Elt Ideal)) : StableHlo.after [hostOps1, hostOps1_1, hostOps1_2, hostOps1_3, hostOps1_4].flatten V (Proc.devRef .tc main_v76)
    = attention (V (Proc.devRef .tc main_arg0)) (V (Proc.devRef .tc main_arg1)) (V (Proc.devRef .tc main_arg2)) (V (Proc.devRef .tc main_v18_2)) (V (Proc.devRef .tc main_arg4)) (V (Proc.devRef .tc main_v18_3)) (V (Proc.devRef .tc main_arg6)) (V (Proc.devRef .tc main_arg7)) := by
  simp only [hostOps1, hostOps1_1, hostOps1_2, hostOps1_3, hostOps1_4, List.flatten_cons, List.flatten_nil, List.append_nil, List.cons_append, List.nil_append]
  after_reads_simp
  try simp -implicitDefEqProofs only [StableHlo.TRef.toBuf, StableHlo.TRef.ofBuf, cast_cast, cast_eq, id_eq]
  try rfl

set_option maxHeartbeats 1600000 in
theorem tail_v12 (V : Valuation τ sig (Elt Ideal)) : StableHlo.after [hostOps1, hostOps1_1, hostOps1_2, hostOps1_3, hostOps1_4].flatten V (Proc.devRef .tc main_v12)
    = V (Proc.devRef .tc main_v12) := by
  simp only [hostOps1, hostOps1_1, hostOps1_2, hostOps1_3, hostOps1_4, List.flatten_cons, List.flatten_nil, List.append_nil, List.cons_append, List.nil_append]
  after_reads_simp
  try simp -implicitDefEqProofs only [StableHlo.TRef.toBuf, StableHlo.TRef.ofBuf, cast_cast, cast_eq, id_eq]
  try rfl

/-! ## What the lines before the region leave -/

set_option maxHeartbeats 1600000 in
theorem head_v12 (V : Valuation τ sig (Elt Ideal)) : StableHlo.after [hostOps0, hostOps0_1, hostOps0_2, hostOps0_3, hostOps0_4, hostOps0_5, hostOps0_6, hostOps0_7, hostOps0_8, hostOps0_9].flatten V (Proc.devRef .tc main_v12)
    = vScale (V (Proc.devRef .tc main_arg2)) := by
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_reads_simp
  try simp -implicitDefEqProofs only [StableHlo.TRef.toBuf, StableHlo.TRef.ofBuf, cast_cast, cast_eq, id_eq]
  try rfl

set_option maxHeartbeats 1600000 in
theorem head_v4 (V : Valuation τ sig (Elt Ideal)) : StableHlo.after [hostOps0, hostOps0_1, hostOps0_2, hostOps0_3, hostOps0_4, hostOps0_5, hostOps0_6, hostOps0_7, hostOps0_8, hostOps0_9].flatten V (Proc.devRef .tc main_v4)
    = kQuant (V (Proc.devRef .tc main_arg1)) (V (Proc.devRef .tc main_arg4)) := by
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_reads_simp
  try simp -implicitDefEqProofs only [StableHlo.TRef.toBuf, StableHlo.TRef.ofBuf, cast_cast, cast_eq, id_eq]
  try rfl

set_option maxHeartbeats 1600000 in
theorem head_v17 (V : Valuation τ sig (Elt Ideal)) : StableHlo.after [hostOps0, hostOps0_1, hostOps0_2, hostOps0_3, hostOps0_4, hostOps0_5, hostOps0_6, hostOps0_7, hostOps0_8, hostOps0_9].flatten V (Proc.devRef .tc main_v17)
    = vQuant (V (Proc.devRef .tc main_arg2)) := by
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_reads_simp
  try simp -implicitDefEqProofs only [StableHlo.TRef.toBuf, StableHlo.TRef.ofBuf, cast_cast, cast_eq, id_eq]
  try rfl

/-! ## What the region leaves in its four result arrays -/

theorem idx : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0] ∧ win0_6.index t = ![0, 0, 0, 0]
    ∧ win0_7.index t = ![0, 0, 0, 0] :=
  (by decide +kernel : ∀ t : Fin grid0.N, _)

theorem read0 (c : Dev nD) (G : (b : Ref sig .tc) → Buf (Elt Ideal) ((c : Thread nD τ).loc b)) (x : S32x1x2x256.Idx) :
    (((cfg0.win 0).blk t0_0).view.read (Elt Ideal) (G (Pipeline.arrRef spec0 0))) x = G main_v4 x := by
  blk_ext [idx t0_0]

theorem iblk0 (c : Dev nD) : iblk m c 0 t0_0 = V m c main_v4 := by
  unfold iblk
  exact funext (read0 c (V m c))

theorem final4 (c : Dev nD) : (dats m 0 c).arrAt 4 (cfgs 0).N = k0_pay1 (V m c main_v4) := by
  rw [← iblk0 m c]
  refine (dats m 0 c).arrAt_eq_of_after_last 4 t0_0 (by decide +kernel) _ fun j => ?_
  blk_simp
  rw [after0_4]; frame_out

theorem read1 (c : Dev nD) (G : (b : Ref sig .tc) → Buf (Elt Ideal) ((c : Thread nD τ).loc b)) (x : S32x1x2x256.Idx) :
    (((cfg0.win 1).blk t0_0).view.read (Elt Ideal) (G (Pipeline.arrRef spec0 1))) x = G main_v17 x := by
  blk_ext [idx t0_0]

theorem iblk1 (c : Dev nD) : iblk m c 1 t0_0 = V m c main_v17 := by
  unfold iblk
  exact funext (read1 c (V m c))

theorem final5 (c : Dev nD) : (dats m 0 c).arrAt 5 (cfgs 0).N = k0_pay2 (V m c main_v17) := by
  rw [← iblk1 m c]
  refine (dats m 0 c).arrAt_eq_of_after_last 5 t0_0 (by decide +kernel) _ fun j => ?_
  blk_simp
  rw [after0_5]; frame_out

theorem final6 (c : Dev nD) : (dats m 0 c).arrAt 6 (cfgs 0).N = k0_pay3 (V m c main_arg3) := by
  refine (dats m 0 c).arrAt_eq_of_after_last 6 t0_0 (by decide +kernel) _ fun j => ?_
  blk_simp
  rw [after0_6]; frame_out
  blk_point [iblk, idx t0_0]

theorem final7 (c : Dev nD) : (dats m 0 c).arrAt 7 (cfgs 0).N = k0_pay4 (V m c main_arg5) := by
  refine (dats m 0 c).arrAt_eq_of_after_last 7 t0_0 (by decide +kernel) _ fun j => ?_
  blk_simp
  rw [after0_7]; frame_out
  blk_point [iblk, idx t0_0]

/-- The contents after the region: each array as the region leaves it, the other buffers as they were. -/
abbrev mid (c : Dev nD) : Valuation τ sig (Elt Ideal) :=
  Pipeline.withArrays spec0 c (V0 m c) (fun w => (dats m 0 c).arrAt w (cfgs 0).N)

theorem mid_arg0 (c : Dev nD) : mid m c (Proc.devRef .tc main_arg0) = m ((c : Thread nD τ).loc main_arg0) :=
  (Pipeline.withArrays_of_ne spec0 c (V0 m c) _ main_arg0 (by exact (by decide : ∀ w, Pipeline.arrRef spec0 w ≠ main_arg0))).trans (V_main_arg0 m c)
theorem mid_arg1 (c : Dev nD) : mid m c (Proc.devRef .tc main_arg1) = m ((c : Thread nD τ).loc main_arg1) :=
  (Pipeline.withArrays_of_ne spec0 c (V0 m c) _ main_arg1 (by exact (by decide : ∀ w, Pipeline.arrRef spec0 w ≠ main_arg1))).trans (V_main_arg1 m c)
theorem mid_arg2 (c : Dev nD) : mid m c (Proc.devRef .tc main_arg2) = m ((c : Thread nD τ).loc main_arg2) :=
  (Pipeline.withArrays_of_ne spec0 c (V0 m c) _ main_arg2 (by exact (by decide : ∀ w, Pipeline.arrRef spec0 w ≠ main_arg2))).trans (V_main_arg2 m c)
theorem mid_arg4 (c : Dev nD) : mid m c (Proc.devRef .tc main_arg4) = m ((c : Thread nD τ).loc main_arg4) :=
  (Pipeline.withArrays_of_ne spec0 c (V0 m c) _ main_arg4 (by exact (by decide : ∀ w, Pipeline.arrRef spec0 w ≠ main_arg4))).trans (V_main_arg4 m c)
theorem mid_arg6 (c : Dev nD) : mid m c (Proc.devRef .tc main_arg6) = m ((c : Thread nD τ).loc main_arg6) :=
  (Pipeline.withArrays_of_ne spec0 c (V0 m c) _ main_arg6 (by exact (by decide : ∀ w, Pipeline.arrRef spec0 w ≠ main_arg6))).trans (V_main_arg6 m c)
theorem mid_arg7 (c : Dev nD) : mid m c (Proc.devRef .tc main_arg7) = m ((c : Thread nD τ).loc main_arg7) :=
  (Pipeline.withArrays_of_ne spec0 c (V0 m c) _ main_arg7 (by exact (by decide : ∀ w, Pipeline.arrRef spec0 w ≠ main_arg7))).trans (V_main_arg7 m c)
theorem mid_v12 (c : Dev nD) : mid m c (Proc.devRef .tc main_v12) = vScale (m ((c : Thread nD τ).loc main_arg2)) :=
  (Pipeline.withArrays_of_ne spec0 c (V0 m c) _ main_v12 (by exact (by decide : ∀ w, Pipeline.arrRef spec0 w ≠ main_v12))).trans (head_v12 _)
theorem mid_v18_2 (c : Dev nD) : mid m c (Proc.devRef .tc main_v18_2) = k0_pay3 (F := Ideal) (m ((c : Thread nD τ).loc main_arg3)) :=
  (Pipeline.withArrays_arr spec0 launch0.win.arr_inj c (V0 m c) (fun w => (dats m 0 c).arrAt w (cfgs 0).N) 6).trans
    ((final6 m c).trans (congrArg k0_pay3 (V_main_arg3 m c)))
theorem mid_v18_3 (c : Dev nD) : mid m c (Proc.devRef .tc main_v18_3) = k0_pay4 (F := Ideal) (m ((c : Thread nD τ).loc main_arg5)) :=
  (Pipeline.withArrays_arr spec0 launch0.win.arr_inj c (V0 m c) (fun w => (dats m 0 c).arrAt w (cfgs 0).N) 7).trans
    ((final7 m c).trans (congrArg k0_pay4 (V_main_arg5 m c)))

/-- The reference's run. -/
theorem run : θ_run defs (onTc (τ := τ) (main (F := Ideal))) ⟨m, fun _ => 0, ρ⟩ (fun r => ∀ c : Dev nD,
      r.2.mem ((c.tc : Thread nD τ).loc main_v76)
        = attention (m ((c : Thread nD τ).loc main_arg0)) (m ((c : Thread nD τ).loc main_arg1)) (m ((c : Thread nD τ).loc main_arg2))
            (k0_pay3 (F := Ideal) (m ((c : Thread nD τ).loc main_arg3))) (m ((c : Thread nD τ).loc main_arg4)) (k0_pay4 (F := Ideal) (m ((c : Thread nD τ).loc main_arg5)))
            (m ((c : Thread nD τ).loc main_arg6)) (m ((c : Thread nD τ).loc main_arg7))
      ∧ r.2.mem ((c.tc : Thread nD τ).loc main_v18_0) = k0_pay1 (F := Ideal) (kQuant (m ((c : Thread nD τ).loc main_arg1)) (m ((c : Thread nD τ).loc main_arg4)))
      ∧ r.2.mem ((c.tc : Thread nD τ).loc main_v18_1) = k0_pay2 (F := Ideal) (vQuant (m ((c : Thread nD τ).loc main_arg2)))
      ∧ r.2.mem ((c.tc : Thread nD τ).loc main_v12) = vScale (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono ?_ (θ_run_and (run_main m ρ) (unchanged m ρ))
  intro r h c
  refine ⟨?_, ?_, ?_, ?_, h.2 c⟩
  · refine ((h.1 c).2 main_v76 (Pipeline.mem_restRefs_of main_v76 (by decide) (by decide))).trans ?_
    unfold Pipeline.afterTail₀
    refine (tail_v76 (mid m c)).trans ?_
    rw [mid_arg0, mid_arg1, mid_arg2, mid_arg4, mid_arg6, mid_arg7, mid_v18_2, mid_v18_3]
  · refine ((h.1 c).1 4).trans ((final4 m c).trans ?_)
    exact congrArg k0_pay1 (head_v4 _)
  · refine ((h.1 c).1 5).trans ((final5 m c).trans ?_)
    exact congrArg k0_pay2 (head_v17 _)
  · refine ((h.1 c).2 main_v12 (Pipeline.mem_restRefs_of main_v12 (by decide) (by decide))).trans ?_
    unfold Pipeline.afterTail₀
    exact (tail_v12 (mid m c)).trans (mid_v12 m c)

end Cert.ReferenceIdeal.Value

end
-- ==== Proof.Val.Spec.lean ====
/- What both programs compute, entry by entry, as functions of extended reals and 8-bit codes: the code and the scale of
   a new row, the scores of one query row, and one entry of its attention row. -/
module

public import Idealize.ShloMosaic.Lib.Pipeline.ValueKit

@[expose] public section

noncomputable section

namespace Cert.Spec

open Idealize.ShloMosaic

theorem low_eq : Ideal.ofBits .f32 0xFF800000#32 = ⊥ := by
  simp [Ideal.ofBits, Ideal.ieee]

/-- The 8-bit code of `x` under the scale `s`: the quotient rounded to the nearest even integer, clamped to ±127. -/
def code (x s : EReal) : BitVec 8 :=
  FloatOps.fptosi (F := Ideal) (φ := .f32) 8 (min (Ideal.ofBits .f32 0x42FE0000#32) (max (Ideal.ofBits .f32 0xC2FE0000#32)
    (Ideal.liftRound Ideal.roundHalfEven (Ideal.div x s))))

/-- The largest magnitude of a row. -/
def largest (x : Fin 256 → EReal) : EReal :=
  Finset.fold max (Ideal.ofBits .f32 0xFF800000#32) (fun e => FloatOps.absf (F := Ideal) (φ := .f32) (x e)) Finset.univ

/-- The scale of a row: its largest magnitude over 127, or 1 where that is 0. -/
def scale (x : Fin 256 → EReal) : EReal :=
  if largest x = 0 then 1 else Ideal.div (largest x) (Ideal.ofBits .f32 0x42FE0000#32)

/-- The score of cache position `p` for the query row `q`: the product with the decoded key over 16, -∞ from the row's length on. -/
def score (len : BitVec 32) (q : Fin 256 → EReal) (kc : Fin 2048 → Fin 256 → BitVec 8) (ks : Fin 256 → EReal) (p : Fin 2048) : EReal :=
  Scalar.select (IntOp.cmpi .slt (BitVec.ofNat 32 p.val) len)
    ((∑ e, q e * (FloatOps.sitofp (F := Ideal) .bf16 (kc p e) * ks e)) * Ideal.ofBits .f32 0x3D800000#32)
    (Ideal.ofBits .f32 0xFF800000#32)

/-- The score of the new key `k`. -/
def newScore (q k : Fin 256 → EReal) : EReal := (∑ e, q e * k e) * Ideal.ofBits .f32 0x3D800000#32

/-- The largest of the cache's scores `s` and the new score `n`. -/
def top (s : Fin 2048 → EReal) (n : EReal) : EReal := max (Finset.fold max (Ideal.ofBits .f32 0xFF800000#32) s Finset.univ) n

/-- The softmax's denominator. -/
def denom (s : Fin 2048 → EReal) (n : EReal) : EReal := ∑ p, Ideal.exp (s p - top s n) + Ideal.exp (n - top s n)

/-- One entry of the attention row: the cache's decoded values `vc`, `vs` and the new value `v`, under the softmax's weights. -/
def attend (s : Fin 2048 → EReal) (n : EReal) (vs : Fin 2048 → EReal) (vc : Fin 2048 → BitVec 8) (v : EReal) : EReal :=
  ∑ p, Ideal.div (Ideal.exp (s p - top s n)) (denom s n) * vs p * FloatOps.sitofp (F := Ideal) .bf16 (vc p)
    + Ideal.div (Ideal.exp (n - top s n)) (denom s n) * v

end Cert.Spec

end
-- ==== Proof.Val.RefAt.lean ====
/- The reference's four results, entry by entry. -/
module

public import proofs.«01_k».proof.Proof.Ref.Terms
public import proofs.«01_k».proof.Proof.Val.Spec

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

theorem kCode_at (X1 : FVec Ideal S32x1x2x256 .bf16) (X4 : FVec Ideal S32x2x256 .f32) (b : Fin 32) (a : Fin 2) (d : Fin 256) :
    k0_pay1 (F := Ideal) (kQuant X1 X4) (ix4 b 0 a d) = Spec.code (X1 (ix4 b 0 a d)) (X4 (ix3 b a d)) := by
  pointwise [k0_pay1, kQuant, quant]
  rfl

theorem vScale_at (X2 : FVec Ideal S32x1x2x256 .bf16) (b : Fin 32) (a : Fin 2) :
    vScale X2 (ix3 b 0 a) = Spec.scale (fun e => X2 (ix4 b 0 a e)) := by
  pointwise [vScale, vMax]
  rfl

theorem vCode_at (X2 : FVec Ideal S32x1x2x256 .bf16) (b : Fin 32) (a : Fin 2) (d : Fin 256) :
    k0_pay2 (F := Ideal) (vQuant X2) (ix4 b 0 a d) = Spec.code (X2 (ix4 b 0 a d)) (Spec.scale (fun e => X2 (ix4 b 0 a e))) := by
  pointwise [k0_pay2, vQuant, quant, vScale_at]
  rfl

theorem row_lt (a : Fin 2) (g : Fin 16) : (a : ℕ) * 16 + g < 32 := by omega

/-- The query row `g` of head `a`. -/
abbrev row (a : Fin 2) (g : Fin 16) : Fin 32 := ⟨(a : ℕ) * 16 + g, row_lt a g⟩

theorem scores_at (X0 : FVec Ideal S32x1x32x256 .bf16) (X3 : IVec S32x2048x2x256 8) (X4 : FVec Ideal S32x2x256 .f32) (X7 : IVec S32 32)
    (b : Fin 32) (a : Fin 2) (g : Fin 16) (p : Fin 2048) :
    scores X0 (k0_pay3 X3) X4 X7 (ix5 b a g 0 p)
      = Spec.score (X7 (ix1 b)) (fun e => X0 (ix4 b 0 (row a g) e)) (fun p e => X3 (ix4 b p a e)) (fun e => X4 (ix3 b a e)) p := by
  pointwise [scores, query, k0_pay3]
  unfold Spec.score
  simp only [mul_comm (X0 _)]

theorem newScore_at (X0 : FVec Ideal S32x1x32x256 .bf16) (X1 : FVec Ideal S32x1x2x256 .bf16) (b : Fin 32) (a : Fin 2) (g : Fin 16) :
    newScore X0 X1 (ix5 b a g 0 0) = Spec.newScore (fun e => X0 (ix4 b 0 (row a g) e)) (fun e => X1 (ix4 b 0 a e)) := by
  pointwise [newScore, query]
  unfold Spec.newScore
  simp only [mul_comm (X0 _)]
  rw [show IntOp.cmpi .sle 0#32 0#32 = 1#1 from rfl]
  rfl

variable (sc : FVec Ideal S32x2x16x1x2048 .f32) (sn : FVec Ideal S32x2x16x1x1 .f32)

theorem top_at (b : Fin 32) (a : Fin 2) (g : Fin 16) :
    top sc sn (ix5 b a g 0 0) = Spec.top (fun p => sc (ix5 b a g 0 p)) (sn (ix5 b a g 0 0)) := by
  pointwise [top, keep]
  simp only [Finset.univ_unique, Finset.fold_singleton, Spec.low_eq, max_bot_right, Fin.default_eq_zero, Fin.isValue]
  unfold Spec.top
  rw [Spec.low_eq]

theorem denom_at (b : Fin 32) (a : Fin 2) (g : Fin 16) :
    denom sc sn (ix5 b a g 0 0) = Spec.denom (fun p => sc (ix5 b a g 0 p)) (sn (ix5 b a g 0 0)) := by
  pointwise [denom, keep, expC, expN, along, top_at]
  simp only [Finset.univ_unique, Finset.sum_singleton, Fin.default_eq_zero, Fin.isValue, top_at]
  rfl

/-- The key head of a query row, and its place among the head's rows. -/
abbrev head (h : Fin 32) : Fin 2 := ⟨(h : ℕ) / 16, by omega⟩
abbrev lane (h : Fin 32) : Fin 16 := ⟨(h : ℕ) % 16, by omega⟩

theorem mix_at (X2 : FVec Ideal S32x1x2x256 .bf16)
    (X5 : IVec S32x2048x2x256 8) (X6 : FVec Ideal S32x2048x2 .f32) (b : Fin 32) (h : Fin 32) (d : Fin 256) :
    mix sc sn X2 (k0_pay4 X5) X6 (ix4 b 0 h d)
      = Spec.attend (fun p => sc (ix5 b (head h) (lane h) 0 p)) (sn (ix5 b (head h) (lane h) 0 0))
          (fun p => X6 (ix3 b p (head h))) (fun p => X5 (ix4 b p (head h) d)) (X2 (ix4 b 0 (head h) d)) := by
  pointwise [mix, weights, expN, k0_pay4, keep, expC, along, top_at, denom_at]
  simp only [Finset.univ_unique, Finset.sum_singleton, Fin.default_eq_zero, Fin.isValue, top_at, denom_at]
  unfold Spec.attend
  simp only [mul_comm (FloatOps.sitofp (F := Ideal) .bf16 _), mul_comm (X2 _)]

/-- An entry of the reference's attention rows. -/
theorem attention_at (X0 : FVec Ideal S32x1x32x256 .bf16) (X1 X2 : FVec Ideal S32x1x2x256 .bf16) (X3 : IVec S32x2048x2x256 8)
    (X4 : FVec Ideal S32x2x256 .f32) (X5 : IVec S32x2048x2x256 8) (X6 : FVec Ideal S32x2048x2 .f32) (X7 : IVec S32 32)
    (b : Fin 32) (h : Fin 32) (d : Fin 256) :
    attention X0 X1 X2 (k0_pay3 X3) X4 (k0_pay4 X5) X6 X7 (ix4 b 0 h d)
      = Spec.attend
          (Spec.score (X7 (ix1 b)) (fun e => X0 (ix4 b 0 h e)) (fun p e => X3 (ix4 b p (head h) e)) (fun e => X4 (ix3 b (head h) e)))
          (Spec.newScore (fun e => X0 (ix4 b 0 h e)) (fun e => X1 (ix4 b 0 (head h) e)))
          (fun p => X6 (ix3 b p (head h))) (fun p => X5 (ix4 b p (head h) d)) (X2 (ix4 b 0 (head h) d)) := by
  have hr : row (head h) (lane h) = h := Fin.ext (by show (h : ℕ) / 16 * 16 + (h : ℕ) % 16 = h; omega)
  unfold attention
  rw [mix_at, newScore_at, hr]
  refine congrArg (fun s => Spec.attend s _ _ _ _) (funext fun p => ?_)
  rw [scores_at, hr]

end Cert.ReferenceIdeal.Value

end
-- ==== Proof.Val.Pay.lean ====
/- The kernel's stored values, entry by entry. -/
module

public import proofs.«01_k».proof.Proof.Run.Outs
public import proofs.«01_k».proof.Proof.Val.Spec

@[expose] public section

set_option maxRecDepth 16384

noncomputable section

namespace Cert.KernelIdeal.Value

open Idealize.ShloMosaic Idealize.ShloMosaic.TcCoe Idealize.SL.Sem
open Cert.KernelIdeal Cert.KernelIdeal.Gen

/-! ## Codes and scales of the new rows -/

theorem pay2_at (x : FVec Ideal S32x1x256 .bf16) (s : FVec Ideal S32x1x256 .f32) (b : Fin 32) (d : Fin 256) :
    k0_pay2 (F := Ideal) x s (ix3 0 b d) = Spec.code (x (ix3 b 0 d)) (s (ix3 b 0 d)) := by
  pointwise [k0_pay2]
  rfl

theorem pay7_at (x : FVec Ideal S32x1x256 .bf16) (s : FVec Ideal S32x1x256 .f32) (b : Fin 32) (d : Fin 256) :
    k0_pay7 (F := Ideal) x s (ix3 0 b d) = Spec.code (x (ix3 b 0 d)) (s (ix3 b 0 d)) := by
  pointwise [k0_pay7]
  rfl

theorem pay4_at (x : FVec Ideal S32x1x256 .bf16) (b : Fin 32) :
    k0_pay4 (F := Ideal) x (ix2 b 0) = Spec.scale (fun e => x (ix3 b 0 e)) := by
  pointwise [k0_pay4, k0_pay3]
  rfl

theorem pay9_at (x : FVec Ideal S32x1x256 .bf16) (b : Fin 32) :
    k0_pay9 (F := Ideal) x (ix2 b 0) = Spec.scale (fun e => x (ix3 b 0 e)) := by
  pointwise [k0_pay9, k0_pay8]
  rfl

theorem pay6_at (x : FVec Ideal S32x1x256 .bf16) (b : Fin 32) (d : Fin 256) :
    k0_pay6 (k0_pay5 (F := Ideal) x) (ix3 0 b d) = Spec.code (x (ix3 b 0 d)) (Spec.scale (fun e => x (ix3 b 0 e))) := by
  pointwise [k0_pay6, k0_pay5, k0_pay3, pay4_at]
  rfl

theorem pay11_at (x : FVec Ideal S32x1x256 .bf16) (b : Fin 32) (d : Fin 256) :
    k0_pay11 (F := Ideal) (Scalar.ofBits .f32 0x42FE0000#32) (k0_pay10 x) (ix3 0 b d)
      = Spec.code (x (ix3 b 0 d)) (Spec.scale (fun e => x (ix3 b 0 e))) := by
  pointwise [k0_pay11, k0_pay10, k0_pay8, pay9_at]
  rfl

/-! ## The attention rows of one head -/

variable (len : BitVec 32) (q : FVec Ideal S1x16x256 .bf16) (kc : IVec S1x1x2048x256 8) (ks : FVec Ideal S1x1x256 .f32)
  (kn : FVec Ideal S1x1x256 .bf16) (vs : FVec Ideal S1x1x2048 .f32) (vc : IVec S1x1x2048x256 8) (vn : FVec Ideal S1x1x256 .bf16)

theorem score0_at (g : Fin 16) (p : Fin 2048) : k0_pay13 (F := Ideal) len q kc ks (ix2 g p)
    = Spec.score len (fun e => q (ix3 0 g e)) (fun p e => kc (ix4 0 0 p e)) (fun e => ks (ix3 0 0 e)) p := by
  pointwise [k0_pay13, k0_pay12]
  rfl

theorem newScore0_at (g : Fin 16) : k0_pay14 (F := Ideal) q kn (ix2 g 0)
    = Spec.newScore (fun e => q (ix3 0 g e)) (fun e => kn (ix3 0 0 e)) := by
  pointwise [k0_pay14, k0_pay12]
  rfl

theorem top0_at (g : Fin 16) : k0_pay15 (F := Ideal) len q kc ks kn (ix2 g 0)
    = Spec.top (Spec.score len (fun e => q (ix3 0 g e)) (fun p e => kc (ix4 0 0 p e)) (fun e => ks (ix3 0 0 e)))
        (Spec.newScore (fun e => q (ix3 0 g e)) (fun e => kn (ix3 0 0 e))) := by
  pointwise [k0_pay15, score0_at, newScore0_at]
  rfl

theorem head0_at (g : Fin 16) (d : Fin 256) :
    k0_pay17 (F := Ideal) (k0_pay13 len q kc ks) (k0_pay14 q kn) (k0_pay15 len q kc ks kn) (k0_pay16 len q kc ks kn) vs vc vn (ix3 0 g d)
      = Spec.attend (Spec.score len (fun e => q (ix3 0 g e)) (fun p e => kc (ix4 0 0 p e)) (fun e => ks (ix3 0 0 e)))
        (Spec.newScore (fun e => q (ix3 0 g e)) (fun e => kn (ix3 0 0 e))) (fun p => vs (ix3 0 0 p)) (fun p => vc (ix4 0 0 p d)) (vn (ix3 0 0 d)) := by
  pointwise [k0_pay17, k0_pay16, score0_at, newScore0_at, top0_at]
  rfl

theorem score1_at (g : Fin 16) (p : Fin 2048) : k0_pay20 (F := Ideal) len (k0_pay18 q) (k0_pay19 kc) ks (ix2 g p)
    = Spec.score len (fun e => q (ix3 0 g e)) (fun p e => kc (ix4 0 0 p e)) (fun e => ks (ix3 0 0 e)) p := by
  pointwise [k0_pay20, k0_pay18, k0_pay19]
  rfl

theorem newScore1_at (g : Fin 16) : k0_pay21 (F := Ideal) (k0_pay18 q) kn (ix2 g 0)
    = Spec.newScore (fun e => q (ix3 0 g e)) (fun e => kn (ix3 0 0 e)) := by
  pointwise [k0_pay21, k0_pay18]
  rfl

theorem top1_at (g : Fin 16) : k0_pay22 (F := Ideal) len (k0_pay18 q) (k0_pay19 kc) ks kn (ix2 g 0)
    = Spec.top (Spec.score len (fun e => q (ix3 0 g e)) (fun p e => kc (ix4 0 0 p e)) (fun e => ks (ix3 0 0 e)))
        (Spec.newScore (fun e => q (ix3 0 g e)) (fun e => kn (ix3 0 0 e))) := by
  pointwise [k0_pay22, score1_at, newScore1_at]
  rfl

theorem head1_at (g : Fin 16) (d : Fin 256) :
    k0_pay1 (F := Ideal) (k0_pay24 len (k0_pay18 q) (k0_pay19 kc) ks kn) (k0_pay25 len (k0_pay18 q) (k0_pay19 kc) ks kn)
        (k0_pay26 len (k0_pay18 q) (k0_pay19 kc) ks kn vs) vc vn (ix3 0 g d)
      = Spec.attend (Spec.score len (fun e => q (ix3 0 g e)) (fun p e => kc (ix4 0 0 p e)) (fun e => ks (ix3 0 0 e)))
        (Spec.newScore (fun e => q (ix3 0 g e)) (fun e => kn (ix3 0 0 e))) (fun p => vs (ix3 0 0 p)) (fun p => vc (ix4 0 0 p d)) (vn (ix3 0 0 d)) := by
  pointwise [k0_pay1, k0_pay24, k0_pay25, k0_pay26, k0_pay23, score1_at, newScore1_at, top1_at]
  rfl

/-! ## The stored blocks, at an index -/

theorem ix3_of (z : S1x32x256.Idx) (b : Fin 32) (d : Fin 256) (h1 : (z 1 : ℕ) = b) (h2 : (z 2 : ℕ) = d) : z = ix3 0 b d := by
  exact (eq_ix3 z).trans ((ix3_inj _ _ _ _ _ _).2 ⟨Subsingleton.elim (α := Fin 1) _ _, Fin.ext h1, Fin.ext h2⟩)

theorem ix2_of (z : S32x1.Idx) (b : Fin 32) (h0 : (z 0 : ℕ) = b) : z = ix2 b 0 := by
  exact (eq_ix2 z).trans ((ix2_inj _ _ _ _).2 ⟨Fin.ext h0, Subsingleton.elim (α := Fin 1) _ _⟩)

theorem ix3_of' (z : S1x16x256.Idx) (g : Fin 16) (d : Fin 256) (h1 : (z 1 : ℕ) = g) (h2 : (z 2 : ℕ) = d) : z = ix3 0 g d := by
  exact (eq_ix3 z).trans ((ix3_inj _ _ _ _ _ _).2 ⟨Subsingleton.elim (α := Fin 1) _ _, Fin.ext h1, Fin.ext h2⟩)

theorem out11_at (x : FVec Ideal S32x2x256 .bf16) (s : FVec Ideal S32x2x256 .f32) (y : S2x32x256.Idx) (a : Fin 2) (b : Fin 32) (d : Fin 256)
    (e0 : (y 0 : ℕ) = a) (e1 : (y 1 : ℕ) = b) (e2 : (y 2 : ℕ) = d) :
    out11 (F := Ideal) x s y = Spec.code (x (ix3 b a d)) (s (ix3 b a d)) := by
  unfold out11
  canon_tiles z h
  · obtain rfl := ix3_of z b d (by omega) (by omega)
    rw [pay7_at]
    refine congrArg₂ Spec.code ?_ ?_ <;> (pointwise; blk_ext)
  · obtain rfl := ix3_of z b d (by omega) (by omega)
    rw [pay2_at]
    refine congrArg₂ Spec.code ?_ ?_ <;> (pointwise; blk_ext)

theorem out12_at (x : FVec Ideal S32x2x256 .bf16) (y : S2x32x256.Idx) (a : Fin 2) (b : Fin 32) (d : Fin 256)
    (e0 : (y 0 : ℕ) = a) (e1 : (y 1 : ℕ) = b) (e2 : (y 2 : ℕ) = d) :
    out12 (F := Ideal) x y = Spec.code (x (ix3 b a d)) (Spec.scale (fun e => x (ix3 b a e))) := by
  unfold out12
  canon_tiles z h
  · obtain rfl := ix3_of z b d (by omega) (by omega)
    rw [pay11_at]
    refine congrArg₂ Spec.code ?_ (congrArg Spec.scale (funext fun e => ?_)) <;> (pointwise; blk_ext)
  · obtain rfl := ix3_of z b d (by omega) (by omega)
    rw [pay6_at]
    refine congrArg₂ Spec.code ?_ (congrArg Spec.scale (funext fun e => ?_)) <;> (pointwise; blk_ext)

theorem out13_at (x : FVec Ideal S32x2x256 .bf16) (y : S32x2.Idx) (a : Fin 2) (b : Fin 32)
    (e0 : (y 0 : ℕ) = b) (e1 : (y 1 : ℕ) = a) : out13 (F := Ideal) x y = Spec.scale (fun e => x (ix3 b a e)) := by
  unfold out13
  canon_tiles z h
  · obtain rfl := ix2_of z b (by omega)
    rw [pay9_at]
    refine congrArg Spec.scale (funext fun e => ?_)
    pointwise; blk_ext
  · obtain rfl := ix2_of z b (by omega)
    rw [pay4_at]
    refine congrArg Spec.scale (funext fun e => ?_)
    pointwise; blk_ext

theorem attend_congr {len' : BitVec 32} {q q' : Fin 256 → EReal} {kc kc' : Fin 2048 → Fin 256 → BitVec 8} {ks ks' kn kn' : Fin 256 → EReal}
    {vs vs' : Fin 2048 → EReal} {vc vc' : Fin 2048 → BitVec 8} {vn vn' : EReal} (hq : ∀ e, q e = q' e) (hkc : ∀ p e, kc p e = kc' p e)
    (hks : ∀ e, ks e = ks' e) (hkn : ∀ e, kn e = kn' e) (hvs : ∀ p, vs p = vs' p) (hvc : ∀ p, vc p = vc' p) (hvn : vn = vn') :
    Spec.attend (Spec.score len' q kc ks) (Spec.newScore q kn) vs vc vn = Spec.attend (Spec.score len' q' kc' ks') (Spec.newScore q' kn') vs' vc' vn' := by
  obtain rfl := funext hq
  obtain rfl := funext fun p => funext (hkc p)
  obtain rfl := funext hks
  obtain rfl := funext hkn
  obtain rfl := funext hvs
  obtain rfl := funext hvc
  rw [hvn]

theorem out10_at (x0 : FVec Ideal S1x32x256 .bf16) (x1 x2 : FVec Ideal S1x2x256 .bf16) (x3 : FVec Ideal S1x2x256 .f32)
    (x7 x8 : IVec S1x2x2048x256 8) (x9 : FVec Ideal S1x2x2048 .f32) (y : S1x32x256.Idx) (a : Fin 2) (b : Fin 32) (d : Fin 256)
    (ea : (a : ℕ) = (b : ℕ) / 16) (e1 : (y 1 : ℕ) = b) (e2 : (y 2 : ℕ) = d) :
    out10 (F := Ideal) len x0 x1 x2 x3 x7 x8 x9 y
      = Spec.attend (Spec.score len (fun e => x0 (ix3 0 b e)) (fun p e => x7 (ix4 0 a p e)) (fun e => x3 (ix3 0 a e)))
        (Spec.newScore (fun e => x0 (ix3 0 b e)) (fun e => x1 (ix3 0 a e))) (fun p => x9 (ix3 0 a p)) (fun p => x8 (ix4 0 a p d)) (x2 (ix3 0 a d)) := by
  unfold out10
  canon_tiles z h
  · have hg : (b : ℕ) % 16 < 16 := by omega
    obtain rfl := ix3_of' z ⟨(b : ℕ) % 16, hg⟩ d (by show _ = (b : ℕ) % 16; omega) (by omega)
    unfold head1
    rw [head1_at]
    refine attend_congr (fun e => ?_) (fun p e => ?_) (fun e => ?_) (fun e => ?_) (fun p => ?_) (fun p => ?_) ?_ <;> (pointwise; blk_ext)
  · have hg : (b : ℕ) % 16 < 16 := by omega
    obtain rfl := ix3_of' z ⟨(b : ℕ) % 16, hg⟩ d (by show _ = (b : ℕ) % 16; omega) (by omega)
    unfold head0
    rw [head0_at]
    refine attend_congr (fun e => ?_) (fun p e => ?_) (fun e => ?_) (fun e => ?_) (fun p => ?_) (fun p => ?_) ?_ <;> (pointwise; blk_ext)

end Cert.KernelIdeal.Value

end
-- ==== Proof.Val.Blocks.lean ====
/- Where each window's block lies in its array: the blocks the body reads, at an index of the array, and what the region
   leaves in its four result arrays, over the contents it finds. -/
module

public import proofs.«01_k».proof.Proof.Run.Frame
public import proofs.«01_k».proof.Proof.Val.Pay
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ) (hO : Ok m)

theorem idx_row : ∀ t : Fin grid0.N, cc0_transform_0 (grid0.coords t) = ![t.val, 0, 0] := by decide +kernel
theorem idx_row4 : ∀ t : Fin grid0.N, cc0_transform_7 (grid0.coords t) = ![t.val, 0, 0, 0] := by decide +kernel
theorem idx_all : ∀ t : Fin grid0.N, cc0_transform_4 (grid0.coords t) = ![0, 0, 0] := by decide +kernel
theorem idx_all2 : ∀ t : Fin grid0.N, cc0_transform_13 (grid0.coords t) = ![0, 0] := by decide +kernel

theorem index0 (t : Fin (cfgM m hO).N) : ((cfgM m hO).win 0).index t = ![t.val, 0, 0] := idx_row t
theorem index1 (t : Fin (cfgM m hO).N) : ((cfgM m hO).win 1).index t = ![t.val, 0, 0] := idx_row t
theorem index2 (t : Fin (cfgM m hO).N) : ((cfgM m hO).win 2).index t = ![t.val, 0, 0] := idx_row t
theorem index3 (t : Fin (cfgM m hO).N) : ((cfgM m hO).win 3).index t = ![t.val, 0, 0] := idx_row t
theorem index4 (t : Fin (cfgM m hO).N) : ((cfgM m hO).win 4).index t = ![0, 0, 0] := idx_all t
theorem index5 (t : Fin (cfgM m hO).N) : ((cfgM m hO).win 5).index t = ![0, 0, 0] := idx_all t
theorem index6 (t : Fin (cfgM m hO).N) : ((cfgM m hO).win 6).index t = ![0, 0, 0] := idx_all t
theorem index7 (t : Fin (cfgM m hO).N) : ((cfgM m hO).win 7).index t = ![t.val, 0, 0, 0] := idx_row4 t
theorem index8 (t : Fin (cfgM m hO).N) : ((cfgM m hO).win 8).index t = ![t.val, 0, 0, 0] := idx_row4 t
theorem index9 (t : Fin (cfgM m hO).N) : ((cfgM m hO).win 9).index t = ![t.val, 0, 0] := idx_row t
theorem index10 (t : Fin (cfgM m hO).N) : ((cfgM m hO).win 10).index t = ![t.val, 0, 0] := idx_row t
theorem index11 (t : Fin (cfgM m hO).N) : ((cfgM m hO).win 11).index t = ![0, 0, 0] := idx_all t
theorem index12 (t : Fin (cfgM m hO).N) : ((cfgM m hO).win 12).index t = ![0, 0, 0] := idx_all t
theorem index13 (t : Fin (cfgM m hO).N) : ((cfgM m hO).win 13).index t = ![0, 0] := idx_all2 t

/-! ## The blocks of one batch row -/

theorem read0 (c : Dev nD) (t : Fin (cfgM m hO).N) (b : Fin 32) (hb : (b : ℕ) = t.val)
    (G : (b : Ref sig .tc) → Buf (Elt Ideal) ((c : Thread nD τ).loc b)) (h : Fin 32) (d : Fin 256) :
    ((((cfgM m hO).win 0).blk t).view.read (Elt Ideal) (G (Pipeline.arrRef spec0 0))) (ix3 (0 : Fin 1) h d) = G main_v0 (ix3 b h d) := by
  blk_simp [index0 m hO t]
  blk_ext [index0 m hO t]

theorem iblk0 (c : Dev nD) (t : Fin (cfgM m hO).N) (b : Fin 32) (hb : (b : ℕ) = t.val) (h : Fin 32) (d : Fin 256) :
    iblk m hO c 0 t (ix3 (0 : Fin 1) h d) = V m c main_v0 (ix3 b h d) := by
  unfold iblk
  exact read0 m hO c t b hb (V m c) h d

theorem read1 (c : Dev nD) (t : Fin (cfgM m hO).N) (b : Fin 32) (hb : (b : ℕ) = t.val)
    (G : (b : Ref sig .tc) → Buf (Elt Ideal) ((c : Thread nD τ).loc b)) (a : Fin 2) (d : Fin 256) :
    ((((cfgM m hO).win 1).blk t).view.read (Elt Ideal) (G (Pipeline.arrRef spec0 1))) (ix3 (0 : Fin 1) a d) = G main_v1 (ix3 b a d) := by
  blk_simp [index1 m hO t]
  blk_ext [index1 m hO t]

theorem iblk1 (c : Dev nD) (t : Fin (cfgM m hO).N) (b : Fin 32) (hb : (b : ℕ) = t.val) (a : Fin 2) (d : Fin 256) :
    iblk m hO c 1 t (ix3 (0 : Fin 1) a d) = V m c main_v1 (ix3 b a d) := by
  unfold iblk
  exact read1 m hO c t b hb (V m c) a d

theorem read2 (c : Dev nD) (t : Fin (cfgM m hO).N) (b : Fin 32) (hb : (b : ℕ) = t.val)
    (G : (b : Ref sig .tc) → Buf (Elt Ideal) ((c : Thread nD τ).loc b)) (a : Fin 2) (d : Fin 256) :
    ((((cfgM m hO).win 2).blk t).view.read (Elt Ideal) (G (Pipeline.arrRef spec0 2))) (ix3 (0 : Fin 1) a d) = G main_v2 (ix3 b a d) := by
  blk_simp [index2 m hO t]
  blk_ext [index2 m hO t]

theorem iblk2 (c : Dev nD) (t : Fin (cfgM m hO).N) (b : Fin 32) (hb : (b : ℕ) = t.val) (a : Fin 2) (d : Fin 256) :
    iblk m hO c 2 t (ix3 (0 : Fin 1) a d) = V m c main_v2 (ix3 b a d) := by
  unfold iblk
  exact read2 m hO c t b hb (V m c) a d

theorem read3 (c : Dev nD) (t : Fin (cfgM m hO).N) (b : Fin 32) (hb : (b : ℕ) = t.val)
    (G : (b : Ref sig .tc) → Buf (Elt Ideal) ((c : Thread nD τ).loc b)) (a : Fin 2) (d : Fin 256) :
    ((((cfgM m hO).win 3).blk t).view.read (Elt Ideal) (G (Pipeline.arrRef spec0 3))) (ix3 (0 : Fin 1) a d) = G main_arg4 (ix3 b a d) := by
  blk_simp [index3 m hO t]
  blk_ext [index3 m hO t]

theorem iblk3 (c : Dev nD) (t : Fin (cfgM m hO).N) (b : Fin 32) (hb : (b : ℕ) = t.val) (a : Fin 2) (d : Fin 256) :
    iblk m hO c 3 t (ix3 (0 : Fin 1) a d) = V m c main_arg4 (ix3 b a d) := by
  unfold iblk
  exact read3 m hO c t b hb (V m c) a d

theorem read7 (c : Dev nD) (t : Fin (cfgM m hO).N) (b : Fin 32) (hb : (b : ℕ) = t.val)
    (G : (b : Ref sig .tc) → Buf (Elt Ideal) ((c : Thread nD τ).loc b)) (a : Fin 2) (p : Fin 2048) (d : Fin 256) :
    ((((cfgM m hO).win 7).blk t).view.read (Elt Ideal) (G (Pipeline.arrRef spec0 7))) (ix4 (0 : Fin 1) a p d) = G main_v3 (ix4 b a p d) := by
  blk_simp [index7 m hO t]
  blk_ext [index7 m hO t]

theorem iblk7 (c : Dev nD) (t : Fin (cfgM m hO).N) (b : Fin 32) (hb : (b : ℕ) = t.val) (a : Fin 2) (p : Fin 2048) (d : Fin 256) :
    iblk m hO c 7 t (ix4 (0 : Fin 1) a p d) = V m c main_v3 (ix4 b a p d) := by
  unfold iblk
  exact read7 m hO c t b hb (V m c) a p d

theorem read8 (c : Dev nD) (t : Fin (cfgM m hO).N) (b : Fin 32) (hb : (b : ℕ) = t.val)
    (G : (b : Ref sig .tc) → Buf (Elt Ideal) ((c : Thread nD τ).loc b)) (a : Fin 2) (p : Fin 2048) (d : Fin 256) :
    ((((cfgM m hO).win 8).blk t).view.read (Elt Ideal) (G (Pipeline.arrRef spec0 8))) (ix4 (0 : Fin 1) a p d) = G main_v4 (ix4 b a p d) := by
  blk_simp [index8 m hO t]
  blk_ext [index8 m hO t]

theorem iblk8 (c : Dev nD) (t : Fin (cfgM m hO).N) (b : Fin 32) (hb : (b : ℕ) = t.val) (a : Fin 2) (p : Fin 2048) (d : Fin 256) :
    iblk m hO c 8 t (ix4 (0 : Fin 1) a p d) = V m c main_v4 (ix4 b a p d) := by
  unfold iblk
  exact read8 m hO c t b hb (V m c) a p d

theorem read9 (c : Dev nD) (t : Fin (cfgM m hO).N) (b : Fin 32) (hb : (b : ℕ) = t.val)
    (G : (b : Ref sig .tc) → Buf (Elt Ideal) ((c : Thread nD τ).loc b)) (a : Fin 2) (p : Fin 2048) :
    ((((cfgM m hO).win 9).blk t).view.read (Elt Ideal) (G (Pipeline.arrRef spec0 9))) (ix3 (0 : Fin 1) a p) = G main_v5 (ix3 b a p) := by
  blk_simp [index9 m hO t]
  blk_ext [index9 m hO t]

theorem iblk9 (c : Dev nD) (t : Fin (cfgM m hO).N) (b : Fin 32) (hb : (b : ℕ) = t.val) (a : Fin 2) (p : Fin 2048) :
    iblk m hO c 9 t (ix3 (0 : Fin 1) a p) = V m c main_v5 (ix3 b a p) := by
  unfold iblk
  exact read9 m hO c t b hb (V m c) a p

/-! ## The blocks that are a whole array -/

theorem read4 (c : Dev nD) (t : Fin (cfgM m hO).N)
    (G : (b : Ref sig .tc) → Buf (Elt Ideal) ((c : Thread nD τ).loc b)) (b : Fin 32) (a : Fin 2) (d : Fin 256) :
    ((((cfgM m hO).win 4).blk t).view.read (Elt Ideal) (G (Pipeline.arrRef spec0 4))) (ix3 b a d) = G main_v1 (ix3 b a d) := by
  blk_simp [index4 m hO t]
  blk_ext [index4 m hO t]

theorem iblk4 (c : Dev nD) (t : Fin (cfgM m hO).N) (b : Fin 32) (a : Fin 2) (d : Fin 256) :
    iblk m hO c 4 t (ix3 b a d) = V m c main_v1 (ix3 b a d) := by
  unfold iblk
  exact read4 m hO c t (V m c) b a d

theorem read5 (c : Dev nD) (t : Fin (cfgM m hO).N)
    (G : (b : Ref sig .tc) → Buf (Elt Ideal) ((c : Thread nD τ).loc b)) (b : Fin 32) (a : Fin 2) (d : Fin 256) :
    ((((cfgM m hO).win 5).blk t).view.read (Elt Ideal) (G (Pipeline.arrRef spec0 5))) (ix3 b a d) = G main_v2 (ix3 b a d) := by
  blk_simp [index5 m hO t]
  blk_ext [index5 m hO t]

theorem iblk5 (c : Dev nD) (t : Fin (cfgM m hO).N) (b : Fin 32) (a : Fin 2) (d : Fin 256) :
    iblk m hO c 5 t (ix3 b a d) = V m c main_v2 (ix3 b a d) := by
  unfold iblk
  exact read5 m hO c t (V m c) b a d

theorem read6 (c : Dev nD) (t : Fin (cfgM m hO).N)
    (G : (b : Ref sig .tc) → Buf (Elt Ideal) ((c : Thread nD τ).loc b)) (b : Fin 32) (a : Fin 2) (d : Fin 256) :
    ((((cfgM m hO).win 6).blk t).view.read (Elt Ideal) (G (Pipeline.arrRef spec0 6))) (ix3 b a d) = G main_arg4 (ix3 b a d) := by
  blk_simp [index6 m hO t]
  blk_ext [index6 m hO t]

theorem iblk6 (c : Dev nD) (t : Fin (cfgM m hO).N) (b : Fin 32) (a : Fin 2) (d : Fin 256) :
    iblk m hO c 6 t (ix3 b a d) = V m c main_arg4 (ix3 b a d) := by
  unfold iblk
  exact read6 m hO c t (V m c) b a d

/-! ## The written-back blocks cover the result arrays -/

theorem covers10 : ((cfgM m hO).win 10).Covers :=
  ⟨(by decide : ∀ a : Fin 3, 0 < S1x32x256.size a), fun β =>
    have h0 : (β (0 : Fin 3)).val < 32 := lt_of_lt_of_eq (β (0 : Fin 3)).isLt (by decide : (32 + 1 - 1) / 1 = 32)
    have h1 : (β (1 : Fin 3)).val < 1 := lt_of_lt_of_eq (β (1 : Fin 3)).isLt (by decide : (32 + 32 - 1) / 32 = 1)
    have h2 : (β (2 : Fin 3)).val < 1 := lt_of_lt_of_eq (β (2 : Fin 3)).isLt (by decide : (256 + 256 - 1) / 256 = 1)
    ⟨(⟨(β (0 : Fin 3)).val, h0⟩ : Fin grid0.N), flush0_10 (adm m hO) _, fun a => ⟨by
      rw [index10]
      match a with
      | ⟨0, _⟩ => rfl
      | ⟨1, _⟩ => exact (Nat.lt_one_iff.mp h1).symm
      | ⟨2, _⟩ => exact (Nat.lt_one_iff.mp h2).symm, Or.inl rfl⟩⟩⟩

theorem covers11 : ((cfgM m hO).win 11).Covers :=
  ⟨(by decide : ∀ a : Fin 3, 0 < S2x32x256.size a), fun β =>
    have h0 : (β (0 : Fin 3)).val < 1 := lt_of_lt_of_eq (β (0 : Fin 3)).isLt (by decide : (2 + 2 - 1) / 2 = 1)
    have h1 : (β (1 : Fin 3)).val < 1 := lt_of_lt_of_eq (β (1 : Fin 3)).isLt (by decide : (32 + 32 - 1) / 32 = 1)
    have h2 : (β (2 : Fin 3)).val < 1 := lt_of_lt_of_eq (β (2 : Fin 3)).isLt (by decide : (256 + 256 - 1) / 256 = 1)
    ⟨(⟨31, by decide⟩ : Fin grid0.N), (flush0_11 (adm m hO) _).mpr rfl, fun a => ⟨by
      rw [index11]
      match a with
      | ⟨0, _⟩ => exact (Nat.lt_one_iff.mp h0).symm
      | ⟨1, _⟩ => exact (Nat.lt_one_iff.mp h1).symm
      | ⟨2, _⟩ => exact (Nat.lt_one_iff.mp h2).symm, Or.inl rfl⟩⟩⟩

theorem covers12 : ((cfgM m hO).win 12).Covers :=
  ⟨(by decide : ∀ a : Fin 3, 0 < S2x32x256.size a), fun β =>
    have h0 : (β (0 : Fin 3)).val < 1 := lt_of_lt_of_eq (β (0 : Fin 3)).isLt (by decide : (2 + 2 - 1) / 2 = 1)
    have h1 : (β (1 : Fin 3)).val < 1 := lt_of_lt_of_eq (β (1 : Fin 3)).isLt (by decide : (32 + 32 - 1) / 32 = 1)
    have h2 : (β (2 : Fin 3)).val < 1 := lt_of_lt_of_eq (β (2 : Fin 3)).isLt (by decide : (256 + 256 - 1) / 256 = 1)
    ⟨(⟨31, by decide⟩ : Fin grid0.N), (flush0_12 (adm m hO) _).mpr rfl, fun a => ⟨by
      rw [index12]
      match a with
      | ⟨0, _⟩ => exact (Nat.lt_one_iff.mp h0).symm
      | ⟨1, _⟩ => exact (Nat.lt_one_iff.mp h1).symm
      | ⟨2, _⟩ => exact (Nat.lt_one_iff.mp h2).symm, Or.inl rfl⟩⟩⟩

theorem covers13 : ((cfgM m hO).win 13).Covers :=
  ⟨(by decide : ∀ a : Fin 2, 0 < S32x2.size a), fun β =>
    have h0 : (β (0 : Fin 2)).val < 1 := lt_of_lt_of_eq (β (0 : Fin 2)).isLt (by decide : (32 + 32 - 1) / 32 = 1)
    have h1 : (β (1 : Fin 2)).val < 1 := lt_of_lt_of_eq (β (1 : Fin 2)).isLt (by decide : (2 + 2 - 1) / 2 = 1)
    ⟨(⟨31, by decide⟩ : Fin grid0.N), (flush0_13 (adm m hO) _).mpr rfl, fun a => ⟨by
      rw [index13]
      match a with
      | ⟨0, _⟩ => exact (Nat.lt_one_iff.mp h0).symm
      | ⟨1, _⟩ => exact (Nat.lt_one_iff.mp h1).symm, Or.inl rfl⟩⟩⟩

theorem off_eq : ∀ t : Fin grid0.N, k0_off1 (grid0.coords t) = ![t.val] := by decide +kernel

/-- The word of the prefetched table at a grid point is the batch row's entry. -/
theorem wordAt_eq (c : Dev nD) (t : Fin grid0.N) (b : Fin 32) (hb : (b : ℕ) = t.val) (x : TbBuf0 (F := Ideal) c tbM0_0) :
    wordAt (F := Ideal) c (grid0.coords t) x = x (ix1 b) := by
  unfold wordAt
  refine congrArg x (funext fun a => Fin.ext ?_)
  match a with
  | ⟨0, _⟩ =>
    show k0_off1 (grid0.coords t) 0 + 1 * 0 = b.val
    rw [off_eq t, hb]
    rfl

/-! ## What the region leaves in its four result arrays -/

variable (c : Dev nD)

theorem emb10 (t : Fin (cfgM m hO).N) (G : Buf (Elt Ideal) ((c : Thread nD τ).loc main_v6_0)) (y : S1x32x256.Idx) (b : Fin 32) (hb : (b : ℕ) = t.val)
    (h : Fin 32) (d : Fin 256) (h1 : (y 1 : ℕ) = h) (h2 : (y 2 : ℕ) = d) : G ((((cfgM m hO).win 10).blk t).view.emb y) = G (ix3 b h d) := by
  blk_ext [index10 m hO t]

theorem emb11 (t : Fin (cfgM m hO).N) (G : Buf (Elt Ideal) ((c : Thread nD τ).loc main_v6_1)) (y : S2x32x256.Idx) (a : Fin 2) (b : Fin 32) (d : Fin 256)
    (h0 : (y 0 : ℕ) = a) (h1 : (y 1 : ℕ) = b) (h2 : (y 2 : ℕ) = d) : G ((((cfgM m hO).win 11).blk t).view.emb y) = G (ix3 a b d) := by
  blk_ext [index11 m hO t]

theorem emb12 (t : Fin (cfgM m hO).N) (G : Buf (Elt Ideal) ((c : Thread nD τ).loc main_v6_2)) (y : S2x32x256.Idx) (a : Fin 2) (b : Fin 32) (d : Fin 256)
    (h0 : (y 0 : ℕ) = a) (h1 : (y 1 : ℕ) = b) (h2 : (y 2 : ℕ) = d) : G ((((cfgM m hO).win 12).blk t).view.emb y) = G (ix3 a b d) := by
  blk_ext [index12 m hO t]

theorem emb13 (t : Fin (cfgM m hO).N) (G : Buf (Elt Ideal) ((c : Thread nD τ).loc main_v6_3)) (y : S32x2.Idx) (a : Fin 2) (b : Fin 32)
    (h0 : (y 0 : ℕ) = b) (h1 : (y 1 : ℕ) = a) : G ((((cfgM m hO).win 13).blk t).view.emb y) = G (ix2 b a) := by
  blk_ext [index13 m hO t]

theorem final11 (G : Buf (Elt Ideal) ((c : Thread nD τ).loc main_v6_1))
    (hG : ∀ (a : Fin 2) (b : Fin 32) (d : Fin 256), Spec.code (V m c main_v1 (ix3 b a d)) (V m c main_arg4 (ix3 b a d)) = G (ix3 a b d)) :
    (dats m hO 0 c).arrAt 11 (cfgM m hO).N = G := by
  refine (dats m hO 0 c).arrAt_eq_of_covers 11 _ (covers11 m hO) fun t hf y => ?_
  blk_simp
  rw [after0_11]
  have key : ∀ (y : S2x32x256.Idx) (a : Fin 2) (b : Fin 32) (d : Fin 256) (h0 : (y 0 : ℕ) = a) (h1 : (y 1 : ℕ) = b) (h2 : (y 2 : ℕ) = d),
      out11 (F := Ideal) (iblk m hO c 4 (tFirst m hO)) (iblk m hO c 6 (tFirst m hO)) y = G ((((cfgM m hO).win 11).blk t).view.emb y) := by
    intro y a b d h0 h1 h2
    rw [emb11 m hO c t G y a b d h0 h1 h2]
    refine (out11_at _ _ y a b d h0 h1 h2).trans (Eq.trans ?_ (hG a b d))
    exact congrArg₂ Spec.code (iblk4 m hO c _ b a d) (iblk6 m hO c _ b a d)
  exact key y (y (0 : Fin 3)) (y (1 : Fin 3)) (y (2 : Fin 3)) rfl rfl rfl

theorem final12 (G : Buf (Elt Ideal) ((c : Thread nD τ).loc main_v6_2))
    (hG : ∀ (a : Fin 2) (b : Fin 32) (d : Fin 256),
      Spec.code (V m c main_v2 (ix3 b a d)) (Spec.scale fun e => V m c main_v2 (ix3 b a e)) = G (ix3 a b d)) :
    (dats m hO 0 c).arrAt 12 (cfgM m hO).N = G := by
  refine (dats m hO 0 c).arrAt_eq_of_covers 12 _ (covers12 m hO) fun t hf y => ?_
  blk_simp
  rw [after0_12]
  have key : ∀ (y : S2x32x256.Idx) (a : Fin 2) (b : Fin 32) (d : Fin 256) (h0 : (y 0 : ℕ) = a) (h1 : (y 1 : ℕ) = b) (h2 : (y 2 : ℕ) = d),
      out12 (F := Ideal) (iblk m hO c 5 (tFirst m hO)) y = G ((((cfgM m hO).win 12).blk t).view.emb y) := by
    intro y a b d h0 h1 h2
    rw [emb12 m hO c t G y a b d h0 h1 h2]
    refine (out12_at _ y a b d h0 h1 h2).trans (Eq.trans ?_ (hG a b d))
    exact congrArg₂ Spec.code (iblk5 m hO c _ b a d) (congrArg Spec.scale (funext fun e => iblk5 m hO c _ b a e))
  exact key y (y (0 : Fin 3)) (y (1 : Fin 3)) (y (2 : Fin 3)) rfl rfl rfl

theorem final13 (G : Buf (Elt Ideal) ((c : Thread nD τ).loc main_v6_3))
    (hG : ∀ (a : Fin 2) (b : Fin 32), (Spec.scale fun e => V m c main_v2 (ix3 b a e)) = G (ix2 b a)) :
    (dats m hO 0 c).arrAt 13 (cfgM m hO).N = G := by
  refine (dats m hO 0 c).arrAt_eq_of_covers 13 _ (covers13 m hO) fun t hf y => ?_
  blk_simp
  rw [after0_13]
  have key : ∀ (y : S32x2.Idx) (a : Fin 2) (b : Fin 32) (h0 : (y 0 : ℕ) = b) (h1 : (y 1 : ℕ) = a),
      out13 (F := Ideal) (iblk m hO c 5 (tFirst m hO)) y = G ((((cfgM m hO).win 13).blk t).view.emb y) := by
    intro y a b h0 h1
    rw [emb13 m hO c t G y a b h0 h1]
    refine (out13_at _ y a b h0 h1).trans (Eq.trans ?_ (hG a b))
    exact congrArg Spec.scale (funext fun e => iblk5 m hO c _ b a e)
  exact key y (y (1 : Fin 2)) (y (0 : Fin 2)) rfl rfl

theorem final10 (G : Buf (Elt Ideal) ((c : Thread nD τ).loc main_v6_0))
    (hG : ∀ (b h : Fin 32) (d : Fin 256) (a : Fin 2), (a : ℕ) = (h : ℕ) / 16 →
      Spec.attend (Spec.score (tbl m 0 (ix1 b)) (fun e => V m c main_v0 (ix3 b h e)) (fun p e => V m c main_v3 (ix4 b a p e)) (fun e => V m c main_arg4 (ix3 b a e)))
        (Spec.newScore (fun e => V m c main_v0 (ix3 b h e)) (fun e => V m c main_v1 (ix3 b a e)))
        (fun p => V m c main_v5 (ix3 b a p)) (fun p => V m c main_v4 (ix4 b a p d)) (V m c main_v2 (ix3 b a d)) = G (ix3 b h d)) :
    (dats m hO 0 c).arrAt 10 (cfgM m hO).N = G := by
  refine (dats m hO 0 c).arrAt_eq_of_covers 10 _ (covers10 m hO) fun t hf y => ?_
  blk_simp
  rw [after0_10]
  have key : ∀ (y : S1x32x256.Idx) (b : Fin 32) (h : Fin 32) (d : Fin 256) (hb : (b : ℕ) = t.val) (h1 : (y 1 : ℕ) = h) (h2 : (y 2 : ℕ) = d),
      out10 (F := Ideal) (wordAt c (grid0.coords t) (tbl m 0)) (iblk m hO c 0 t) (iblk m hO c 1 t) (iblk m hO c 2 t) (iblk m hO c 3 t)
        (iblk m hO c 7 t) (iblk m hO c 8 t) (iblk m hO c 9 t) y = G ((((cfgM m hO).win 10).blk t).view.emb y) := by
    intro y b h d hb h1 h2
    have ha : (h : ℕ) / 16 < 2 := by omega
    rw [emb10 m hO c t G y b hb h d h1 h2]
    refine (congrArg (fun w => out10 (F := Ideal) w (iblk m hO c 0 t) (iblk m hO c 1 t) (iblk m hO c 2 t) (iblk m hO c 3 t)
        (iblk m hO c 7 t) (iblk m hO c 8 t) (iblk m hO c 9 t) y) (wordAt_eq c t b hb (tbl m 0))).trans ?_
    refine (out10_at _ _ _ _ _ _ _ _ y ⟨(h : ℕ) / 16, ha⟩ h d rfl h1 h2).trans (Eq.trans ?_ (hG b h d ⟨(h : ℕ) / 16, ha⟩ rfl))
    exact attend_congr (fun e => iblk0 m hO c t b hb h e) (fun p e => iblk7 m hO c t b hb _ p e) (fun e => iblk3 m hO c t b hb _ e)
      (fun e => iblk1 m hO c t b hb _ e) (fun p => iblk9 m hO c t b hb _ p) (fun p => iblk8 m hO c t b hb _ p d) (iblk2 m hO c t b hb _ d)
  exact key y (⟨t.val, t.isLt⟩ : Fin 32) (y (1 : Fin 3)) (y (2 : Fin 3)) rfl rfl rfl

end Cert.KernelIdeal.Value

end
-- ==== Proof.Val.Run.lean ====
/- The kernel's run: its four results, entry by entry, as functions of its arguments. -/
module

public import proofs.«01_k».proof.Proof.Val.Blocks
public import Idealize.ShloMosaic.Lib.StableHlo.RunRead

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-! ## The lines around the region, over any contents before them -/

section
variable (V : Valuation τ sig (Elt Ideal))

theorem head_v0 : StableHlo.after (List.flatten [hostOps0]) V (Proc.devRef .tc main_v0)
    = shapeCast S32x32x256 (V (Proc.devRef .tc main_arg0) : FVec Ideal S32x1x32x256 .bf16) shapeCasts_S32x1x32x256_S32x32x256 := by
  simp only [hostOps0, List.flatten_cons, List.flatten_nil, List.append_nil, List.cons_append, List.nil_append]
  after_reads_simp
  try simp -implicitDefEqProofs only [StableHlo.TRef.toBuf, StableHlo.TRef.ofBuf, cast_cast, cast_eq, id_eq]
  try rfl

theorem head_v1 : StableHlo.after (List.flatten [hostOps0]) V (Proc.devRef .tc main_v1)
    = shapeCast S32x2x256 (V (Proc.devRef .tc main_arg1) : FVec Ideal S32x1x2x256 .bf16) shapeCasts_S32x1x2x256_S32x2x256 := by
  simp only [hostOps0, List.flatten_cons, List.flatten_nil, List.append_nil, List.cons_append, List.nil_append]
  after_reads_simp
  try simp -implicitDefEqProofs only [StableHlo.TRef.toBuf, StableHlo.TRef.ofBuf, cast_cast, cast_eq, id_eq]
  try rfl

theorem head_v2 : StableHlo.after (List.flatten [hostOps0]) V (Proc.devRef .tc main_v2)
    = shapeCast S32x2x256 (V (Proc.devRef .tc main_arg2) : FVec Ideal S32x1x2x256 .bf16) shapeCasts_S32x1x2x256_S32x2x256 := by
  simp only [hostOps0, List.flatten_cons, List.flatten_nil, List.append_nil, List.cons_append, List.nil_append]
  after_reads_simp
  try simp -implicitDefEqProofs only [StableHlo.TRef.toBuf, StableHlo.TRef.ofBuf, cast_cast, cast_eq, id_eq]
  try rfl

theorem head_v3 : StableHlo.after (List.flatten [hostOps0]) V (Proc.devRef .tc main_v3)
    = transpose S32x2x2048x256 [0, 2, 1, 3] (V (Proc.devRef .tc main_arg3) : IVec S32x2048x2x256 8) transposes_S32x2048x2x256_S32x2x2048x256_0_2_1_3 := by
  simp only [hostOps0, List.flatten_cons, List.flatten_nil, List.append_nil, List.cons_append, List.nil_append]
  after_reads_simp
  try simp -implicitDefEqProofs only [StableHlo.TRef.toBuf, StableHlo.TRef.ofBuf, cast_cast, cast_eq, id_eq]
  try rfl

theorem head_v4 : StableHlo.after (List.flatten [hostOps0]) V (Proc.devRef .tc main_v4)
    = transpose S32x2x2048x256 [0, 2, 1, 3] (V (Proc.devRef .tc main_arg5) : IVec S32x2048x2x256 8) transposes_S32x2048x2x256_S32x2x2048x256_0_2_1_3 := by
  simp only [hostOps0, List.flatten_cons, List.flatten_nil, List.append_nil, List.cons_append, List.nil_append]
  after_reads_simp
  try simp -implicitDefEqProofs only [StableHlo.TRef.toBuf, StableHlo.TRef.ofBuf, cast_cast, cast_eq, id_eq]
  try rfl

theorem head_v5 : StableHlo.after (List.flatten [hostOps0]) V (Proc.devRef .tc main_v5)
    = transpose S32x2x2048 [0, 2, 1] (V (Proc.devRef .tc main_arg6) : FVec Ideal S32x2048x2 .f32) transposes_S32x2048x2_S32x2x2048_0_2_1 := by
  simp only [hostOps0, List.flatten_cons, List.flatten_nil, List.append_nil, List.cons_append, List.nil_append]
  after_reads_simp
  try simp -implicitDefEqProofs only [StableHlo.TRef.toBuf, StableHlo.TRef.ofBuf, cast_cast, cast_eq, id_eq]
  try rfl

theorem tail_v7 : StableHlo.after (List.flatten [hostOps1]) V (Proc.devRef .tc main_v7)
    = shapeCast S32x1x32x256 (V (Proc.devRef .tc main_v6_0) : FVec Ideal S32x32x256 .bf16) shapeCasts_S32x32x256_S32x1x32x256 := by
  simp only [hostOps1, List.flatten_cons, List.flatten_nil, List.append_nil, List.cons_append, List.nil_append]
  after_reads_simp
  try simp -implicitDefEqProofs only [StableHlo.TRef.toBuf, StableHlo.TRef.ofBuf, cast_cast, cast_eq, id_eq]
  try rfl

theorem tail_v9 : StableHlo.after (List.flatten [hostOps1]) V (Proc.devRef .tc main_v9)
    = shapeCast S32x1x2x256 (transpose S32x2x256 [1, 0, 2] (V (Proc.devRef .tc main_v6_1) : IVec S2x32x256 8) transposes_S2x32x256_S32x2x256_1_0_2) shapeCasts_S32x2x256_S32x1x2x256 := by
  simp only [hostOps1, List.flatten_cons, List.flatten_nil, List.append_nil, List.cons_append, List.nil_append]
  after_reads_simp
  try simp -implicitDefEqProofs only [StableHlo.TRef.toBuf, StableHlo.TRef.ofBuf, cast_cast, cast_eq, id_eq]
  try rfl

theorem tail_v11 : StableHlo.after (List.flatten [hostOps1]) V (Proc.devRef .tc main_v11)
    = shapeCast S32x1x2x256 (transpose S32x2x256 [1, 0, 2] (V (Proc.devRef .tc main_v6_2) : IVec S2x32x256 8) transposes_S2x32x256_S32x2x256_1_0_2) shapeCasts_S32x2x256_S32x1x2x256 := by
  simp only [hostOps1, List.flatten_cons, List.flatten_nil, List.append_nil, List.cons_append, List.nil_append]
  after_reads_simp
  try simp -implicitDefEqProofs only [StableHlo.TRef.toBuf, StableHlo.TRef.ofBuf, cast_cast, cast_eq, id_eq]
  try rfl

theorem tail_v12 : StableHlo.after (List.flatten [hostOps1]) V (Proc.devRef .tc main_v12)
    = shapeCast S32x1x2 (V (Proc.devRef .tc main_v6_3) : FVec Ideal S32x2 .f32) shapeCasts_S32x2_S32x1x2 := by
  simp only [hostOps1, List.flatten_cons, List.flatten_nil, List.append_nil, List.cons_append, List.nil_append]
  after_reads_simp
  try simp -implicitDefEqProofs only [StableHlo.TRef.toBuf, StableHlo.TRef.ofBuf, cast_cast, cast_eq, id_eq]
  try rfl

end

variable (m : (ℓ : Loc nD τ sig) → Buf (Elt Ideal) ℓ) (ρ : Dev nD → PrngReg) (hO : Ok m) (c : Dev nD)

/-! ## What the region finds, at an index -/

theorem v0_at (b h : Fin 32) (d : Fin 256) : V m c main_v0 (ix3 b h d) = m ((c : Thread nD τ).loc main_arg0) (ix4 b 0 h d) := by
  refine (congrFun (head_v0 _) (ix3 b h d)).trans ?_
  pointwise []

theorem v1_at (b : Fin 32) (a : Fin 2) (d : Fin 256) : V m c main_v1 (ix3 b a d) = m ((c : Thread nD τ).loc main_arg1) (ix4 b 0 a d) := by
  refine (congrFun (head_v1 _) (ix3 b a d)).trans ?_
  pointwise []

theorem v2_at (b : Fin 32) (a : Fin 2) (d : Fin 256) : V m c main_v2 (ix3 b a d) = m ((c : Thread nD τ).loc main_arg2) (ix4 b 0 a d) := by
  refine (congrFun (head_v2 _) (ix3 b a d)).trans ?_
  pointwise []

theorem v3_at (b : Fin 32) (a : Fin 2) (p : Fin 2048) (d : Fin 256) : V m c main_v3 (ix4 b a p d) = m ((c : Thread nD τ).loc main_arg3) (ix4 b p a d) := by
  refine (congrFun (head_v3 _) (ix4 b a p d)).trans ?_
  pointwise []

theorem v4_at (b : Fin 32) (a : Fin 2) (p : Fin 2048) (d : Fin 256) : V m c main_v4 (ix4 b a p d) = m ((c : Thread nD τ).loc main_arg5) (ix4 b p a d) := by
  refine (congrFun (head_v4 _) (ix4 b a p d)).trans ?_
  pointwise []

theorem v5_at (b : Fin 32) (a : Fin 2) (p : Fin 2048) : V m c main_v5 (ix3 b a p) = m ((c : Thread nD τ).loc main_arg6) (ix3 b p a) := by
  refine (congrFun (head_v5 _) (ix3 b a p)).trans ?_
  pointwise []

theorem tbl_at (b : Fin 32) : tbl m 0 (ix1 b) = m ((c : Thread nD τ).loc main_arg7) (ix1 b) :=
  congrFun ((V_pre m c 0).symm.trans (V_main_arg7 m c)) (ix1 b)

/-! ## What the run leaves -/

/-- The contents after the region: each array as the region leaves it, the other buffers as they were. -/
abbrev mid : Valuation τ sig (Elt Ideal) :=
  Pipeline.withArrays spec0 c (V0 m c) (fun w => (dats m hO 0 c).arrAt w (cfgM m hO).N)

/-- An array of two windows is an input of both: the region leaves it as it finds it. -/
theorem shared (w w' : Fin (cfgM m hO).W) (hne : w ≠ w') (he : Pipeline.arrRef spec0 w = Pipeline.arrRef spec0 w') :
    (dats m hO 0 c).arrAt w (cfgM m hO).N = V0 m c (Proc.devRef .tc (Pipeline.arrRef spec0 w)) := by
  have hin : ((cfgM m hO).win w).isOut = false := by
    revert w w'; exact (by decide : ∀ w w' : Fin 14, w ≠ w' → Pipeline.arrRef spec0 w = Pipeline.arrRef spec0 w' → (spec0 w).isOut = false)
  exact (Dat.arrAt_in _ w hin _).trans (A_eq m hO c w)

theorem mid_arr (w : Fin (cfgM m hO).W) : mid m hO c (Proc.devRef .tc (Pipeline.arrRef spec0 w)) = (dats m hO 0 c).arrAt w (cfgM m hO).N :=
  Pipeline.withArrays_arr_shared spec0 c (V0 m c) (fun w => (dats m hO 0 c).arrAt w (cfgM m hO).N) (shared m hO c) w

/-- The kernel's run: arrays that agree, entry by entry, with what the region computes from the arguments are its results. -/
theorem run
    (R7 : (c : Dev nD) → FVec Ideal S32x1x32x256 .bf16) (R9 R11 : (c : Dev nD) → IVec S32x1x2x256 8) (R12 : (c : Dev nD) → FVec Ideal S32x1x2 .f32)
    (h7 : ∀ (c : Dev nD) (b h : Fin 32) (d : Fin 256) (a : Fin 2), (a : ℕ) = (h : ℕ) / 16 →
      Spec.attend
        (Spec.score (m ((c : Thread nD τ).loc main_arg7) (ix1 b)) (fun e => m ((c : Thread nD τ).loc main_arg0) (ix4 b 0 h e))
          (fun p e => m ((c : Thread nD τ).loc main_arg3) (ix4 b p a e)) (fun e => m ((c : Thread nD τ).loc main_arg4) (ix3 b a e)))
        (Spec.newScore (fun e => m ((c : Thread nD τ).loc main_arg0) (ix4 b 0 h e)) (fun e => m ((c : Thread nD τ).loc main_arg1) (ix4 b 0 a e)))
        (fun p => m ((c : Thread nD τ).loc main_arg6) (ix3 b p a)) (fun p => m ((c : Thread nD τ).loc main_arg5) (ix4 b p a d))
        (m ((c : Thread nD τ).loc main_arg2) (ix4 b 0 a d)) = R7 c (ix4 b 0 h d))
    (h9 : ∀ (c : Dev nD) (b : Fin 32) (a : Fin 2) (d : Fin 256),
      Spec.code (m ((c : Thread nD τ).loc main_arg1) (ix4 b 0 a d)) (m ((c : Thread nD τ).loc main_arg4) (ix3 b a d)) = R9 c (ix4 b 0 a d))
    (h11 : ∀ (c : Dev nD) (b : Fin 32) (a : Fin 2) (d : Fin 256),
      Spec.code (m ((c : Thread nD τ).loc main_arg2) (ix4 b 0 a d)) (Spec.scale fun e => m ((c : Thread nD τ).loc main_arg2) (ix4 b 0 a e)) = R11 c (ix4 b 0 a d))
    (h12 : ∀ (c : Dev nD) (b : Fin 32) (a : Fin 2), (Spec.scale fun e => m ((c : Thread nD τ).loc main_arg2) (ix4 b 0 a e)) = R12 c (ix3 b 0 a)) :
    θ_run defs (onTc (τ := τ) (main (F := Ideal))) ⟨m, fun _ => 0, ρ⟩ (fun r => ∀ c : Dev nD,
      r.2.mem ((c.tc : Thread nD τ).loc main_v7) = R7 c
      ∧ r.2.mem ((c.tc : Thread nD τ).loc main_v9) = R9 c
      ∧ r.2.mem ((c.tc : Thread nD τ).loc main_v11) = R11 c
      ∧ r.2.mem ((c.tc : Thread nD τ).loc main_v12) = R12 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono ?_ (θ_run_and (run_main m ρ trivial) (unchanged m ρ trivial))
  intro r h c
  refine ⟨?_, ?_, ?_, ?_, h.2 c⟩
  · refine ((h.1 c).2 main_v7 (Pipeline.mem_restRefs_of main_v7 (by decide) (by exact (by decide : ∀ w, Pipeline.arrRef spec0 w ≠ main_v7)))).trans ?_
    unfold Pipeline.afterTail
    refine (tail_v7 (mid m trivial c)).trans ?_
    have e : mid m trivial c (Proc.devRef .tc main_v6_0) = fun j : S32x32x256.Idx => R7 c (ix4 (j (0 : Fin 3)) 0 (j (1 : Fin 3)) (j (2 : Fin 3))) :=
      (mid_arr m trivial c 10).trans (final10 m trivial c _ fun b h d a ha => by
        refine Eq.trans ?_ (h7 c b h d a ha)
        rw [tbl_at m c b, v2_at m c b a d]
        exact attend_congr (fun e => v0_at m c b h e) (fun p e => v3_at m c b a p e) (fun e => congrFun (V_main_arg4 m c) _)
          (fun e => v1_at m c b a e) (fun p => v5_at m c b a p) (fun p => v4_at m c b a p d) rfl)
    rw [e]
    funext j
    obtain ⟨b, z, h, d, rfl⟩ : ∃ (b : Fin 32) (z : Fin 1) (h : Fin 32) (d : Fin 256), j = ix4 b z h d := ⟨_, _, _, _, eq_ix4 j⟩
    obtain rfl : z = 0 := Subsingleton.elim _ _
    pointwise []
  · refine ((h.1 c).2 main_v9 (Pipeline.mem_restRefs_of main_v9 (by decide) (by exact (by decide : ∀ w, Pipeline.arrRef spec0 w ≠ main_v9)))).trans ?_
    unfold Pipeline.afterTail
    refine (tail_v9 (mid m trivial c)).trans ?_
    have e : mid m trivial c (Proc.devRef .tc main_v6_1) = fun j : S2x32x256.Idx => R9 c (ix4 (j (1 : Fin 3)) 0 (j (0 : Fin 3)) (j (2 : Fin 3))) :=
      (mid_arr m trivial c 11).trans (final11 m trivial c _ fun a b d => by
        refine Eq.trans ?_ (h9 c b a d)
        exact congrArg₂ Spec.code (v1_at m c b a d) (congrFun (V_main_arg4 m c) _))
    rw [e]
    funext j
    obtain ⟨b, z, a, d, rfl⟩ : ∃ (b : Fin 32) (z : Fin 1) (a : Fin 2) (d : Fin 256), j = ix4 b z a d := ⟨_, _, _, _, eq_ix4 j⟩
    obtain rfl : z = 0 := Subsingleton.elim _ _
    pointwise []
  · refine ((h.1 c).2 main_v11 (Pipeline.mem_restRefs_of main_v11 (by decide) (by exact (by decide : ∀ w, Pipeline.arrRef spec0 w ≠ main_v11)))).trans ?_
    unfold Pipeline.afterTail
    refine (tail_v11 (mid m trivial c)).trans ?_
    have e : mid m trivial c (Proc.devRef .tc main_v6_2) = fun j : S2x32x256.Idx => R11 c (ix4 (j (1 : Fin 3)) 0 (j (0 : Fin 3)) (j (2 : Fin 3))) :=
      (mid_arr m trivial c 12).trans (final12 m trivial c _ fun a b d => by
        refine Eq.trans ?_ (h11 c b a d)
        exact congrArg₂ Spec.code (v2_at m c b a d) (congrArg Spec.scale (funext fun e => v2_at m c b a e)))
    rw [e]
    funext j
    obtain ⟨b, z, a, d, rfl⟩ : ∃ (b : Fin 32) (z : Fin 1) (a : Fin 2) (d : Fin 256), j = ix4 b z a d := ⟨_, _, _, _, eq_ix4 j⟩
    obtain rfl : z = 0 := Subsingleton.elim _ _
    pointwise []
  · refine ((h.1 c).2 main_v12 (Pipeline.mem_restRefs_of main_v12 (by decide) (by exact (by decide : ∀ w, Pipeline.arrRef spec0 w ≠ main_v12)))).trans ?_
    unfold Pipeline.afterTail
    refine (tail_v12 (mid m trivial c)).trans ?_
    have e : mid m trivial c (Proc.devRef .tc main_v6_3) = fun j : S32x2.Idx => R12 c (ix3 (j (0 : Fin 2)) 0 (j (1 : Fin 2))) :=
      (mid_arr m trivial c 13).trans (final13 m trivial c _ fun a b => by
        refine Eq.trans ?_ (h12 c b a)
        exact congrArg Spec.scale (funext fun e => v2_at m c b a e))
    rw [e]
    funext j
    obtain ⟨b, z, a, rfl⟩ : ∃ (b : Fin 32) (z : Fin 1) (a : Fin 2), j = ix3 b z a := ⟨_, _, _, eq_ix3 j⟩
    obtain rfl : z = 0 := Subsingleton.elim _ _
    pointwise []

end Cert.KernelIdeal.Value

end
-- ==== Proof.Val.Algebraic.lean ====
/- The kernel and the reference agree on all four results. -/
module

public import proofs.«01_k».proof.Defs
public import proofs.«01_k».proof.Proof.Ref.Run
public import proofs.«01_k».proof.Proof.Val.RefAt
public import proofs.«01_k».proof.Proof.Val.Run

@[expose] public section

set_option maxRecDepth 16384

noncomputable section

namespace Cert.Proof

open Idealize.ShloMosaic Idealize.ShloMosaic.TcCoe Idealize.SL.Sem
open Cert.ReferenceIdeal.Gen (k0_pay1 k0_pay2 k0_pay3 k0_pay4)
open Cert.ReferenceIdeal.Value (attention kQuant vQuant vScale attention_at kCode_at vCode_at vScale_at)

/-- On the same arguments both programs run to the same four results: the reference's own formulas, read at the arguments. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => attention (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (k0_pay3 (F := Ideal) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (k0_pay4 (F := Ideal) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => k0_pay1 (F := Ideal) (kQuant (m ((c.tc : Thread Cert.KernelIdeal.nD Cert.KernelIdeal.τ).loc Cert.KernelIdeal.main_arg1)) (m ((c.tc : Thread Cert.KernelIdeal.nD Cert.KernelIdeal.τ).loc Cert.KernelIdeal.main_arg4))),
    fun c => k0_pay2 (F := Ideal) (vQuant (m ((c.tc : Thread Cert.KernelIdeal.nD Cert.KernelIdeal.τ).loc Cert.KernelIdeal.main_arg2))),
    fun c => vScale (m ((c.tc : Thread Cert.KernelIdeal.nD Cert.KernelIdeal.τ).loc Cert.KernelIdeal.main_arg2)), ?_, ?_⟩
  · exact Cert.KernelIdeal.Value.run m g _ _ _ _
      (fun c b h d a ha => by
        obtain rfl : a = Cert.ReferenceIdeal.Value.head h := Fin.ext ha
        exact (attention_at _ _ _ _ _ _ _ _ b h d).symm)
      (fun c b a d => (kCode_at _ _ b a d).symm)
      (fun c b a d => (vCode_at _ b a d).symm)
      (fun c b a => (vScale_at _ b a).symm)
  · refine (θ_run Cert.ReferenceIdeal.defs _ _).mono ?_ (Cert.ReferenceIdeal.Value.run m' g')
    intro r h c
    obtain ⟨e0, e1, e2, e3, e4, e5, e6, e7⟩ := hagree c
    refine ⟨(h c).1.trans ?_, (h c).2.1.trans ?_, (h c).2.2.1.trans ?_, (h c).2.2.2.1.trans ?_, (h c).2.2.2.2⟩
    · rw [e0, e1, e2, e3, e4, e5, e6, e7]
    · rw [e1, e4]
    · rw [e2]
    · rw [e2]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Word.Frame
public import proofs.«01_k».proof.Proof.Gen.KernelIdeal
public import proofs.«01_k».proof.Proof.Gen.KernelIdeal.Skeleton
public import proofs.«01_k».proof.Proof.Gen.KernelIdeal.Launch
public import proofs.«01_k».proof.Proof.Run.Frame
import proofs.«01_k».proof.Proof.Val.Algebraic
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ trivial,
  fun m ρ _ => Cert.KernelIdeal.Gen.frame m ρ trivial,
  fun m ρ _ => Cert.ReferenceIdeal.Gen.frame m ρ,
  trivial,
  algebraic⟩

end Cert.Proof

end
